-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16384x16 : Shape := ⟨2, ![16384, 16]⟩
abbrev S1000x16 : Shape := ⟨2, ![1000, 16]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S16x1000 : Shape := ⟨2, ![16, 1000]⟩

class Facts : Prop where
  reducesTo_S16384x16_S16384_d1 : S16384x16.ReducesTo [1] S16384
  h_S_ : 0 < S_.numel
  bcast_S16384_S16384x1_0 : S16384.BroadcastsInDim S16384x1 (![0] : Fin 1 → Fin S16384x1.rank)
  reducesTo_S1000x16_S1000_d1 : S1000x16.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x16_S16x1000_1_0 : S1000x16.Transposes [1, 0] S16x1000
  bcast_S_S16384x1000 : S_.BroadcastsInDim S16384x1000 (![] : Fin 0 → Fin S16384x1000.rank)
  reducesTo_S16384x1000_S16384_d1 : S16384x1000.ReducesTo [1] S16384
  natLt_1_32 : 1 < 32
  bcast_S_S16384 : S_.BroadcastsInDim S16384 (![] : Fin 0 → Fin S16384.rank)
  dot_S16384x16_S16x1000_S16384x1000_1_0_0_1_n_n_wf : DotDims.WF S16384x16 S16x1000 S16384x1000 [1] [0] [0] [1] [] []

variable [Facts]

def dot_S16384x16_S16x1000_S16384x1000_1_0_0_1_n_n : DotDims S16384x16 S16x1000 S16384x1000 where
  lhsContracting := [1]
  rhsContracting := [0]
  lhsNonContracting := [0]
  rhsNonContracting := [1]
  lhsBatch := []
  rhsBatch := []
  wf := dot_S16384x16_S16x1000_S16384x1000_1_0_0_1_n_n_wf
def fn_part1 {F : FTy → Type} [FloatOps F] (main_v15 : FVec F S16384x1000 .f32) (main_v18 : FVec F S16384x1000 .f32) : IVec S16384 1 :=
  let main_v19 : IVec S16384x1000 1 := cmpf .oeq main_v15 main_v18
  let main_v20 : IVec S16384x1000 32 := (extui 32 · natLt_1_32) main_v19
  let main_c : IVec S_ 32 := constantI S_ 32 0#32
  let main_v21 : IVec S16384 32 := (fun x v => Host.reduce IntOp.addi x v reducesTo_S16384x1000_S16384_d1 h_S_) main_v20 main_c
  let main_c_4 : IVec S_ 32 := constantI S_ 32 1#32
  let main_v22 : IVec S16384 32 := broadcastInDim S16384 ![] bcast_S_S16384 main_c_4
  let main_v23 : IVec S16384 1 := cmpi .eq main_v21 main_v22
  main_v23

def fn {F : FTy → Type} [FloatOps F] (main_arg0 : FVec F S16384x16 .f32) (main_arg1 : FVec F S1000x16 .f32) : IVec S16384 1 :=
  let main_v0 : FVec F S16384x16 .f32 := mulf main_arg0 main_arg0
  let main_cst : FVec F S_ .f32 := constant S_ .f32 0x00000000#32
  let main_v1 : FVec F S16384 .f32 := (fun x v => Host.reduceAdd x v reducesTo_S16384x16_S16384_d1 h_S_) main_v0 main_cst
  let main_v2 : FVec F S16384x1 .f32 := broadcastInDim S16384x1 ![0] bcast_S16384_S16384x1_0 main_v1
  let main_v3 : FVec F S1000x16 .f32 := mulf main_arg1 main_arg1
  let main_cst_0 : FVec F S_ .f32 := constant S_ .f32 0x00000000#32
  let main_v4 : FVec F S1000 .f32 := (fun x v => Host.reduceAdd x v reducesTo_S1000x16_S1000_d1 h_S_) main_v3 main_cst_0
  let main_v5 : FVec F S1x1000 .f32 := broadcastInDim S1x1000 ![1] bcast_S1000_S1x1000_1 main_v4
  let main_v6 : FVec F S16384x1000 .f32 := broadcastInDim S16384x1000 ![0, 1] bcast_S16384x1_S16384x1000_0_1 main_v2
  let main_v7 : FVec F S16384x1000 .f32 := broadcastInDim S16384x1000 ![0, 1] bcast_S1x1000_S16384x1000_0_1 main_v5
  let main_v8 : FVec F S16384x1000 .f32 := addf main_v6 main_v7
  let main_v9 : FVec F S16x1000 .f32 := (transpose S16x1000 [1, 0] · transposes_S1000x16_S16x1000_1_0) main_arg1
  let main_v10 : FVec F S16384x1000 .f32 := (fun l r => Host.dotGeneral dot_S16384x16_S16x1000_S16384x1000_1_0_0_1_n_n none l r) main_arg0 main_v9
  let main_cst_1 : FVec F S_ .f32 := constant S_ .f32 0x40000000#32
  let main_v11 : FVec F S16384x1000 .f32 := broadcastInDim S16384x1000 ![] bcast_S_S16384x1000 main_cst_1
  let main_v12 : FVec F S16384x1000 .f32 := mulf main_v11 main_v10
  let main_v13 : FVec F S16384x1000 .f32 := subf main_v8 main_v12
  let main_cst_2 : FVec F S_ .f32 := constant S_ .f32 0x00000000#32
  let main_v14 : FVec F S16384x1000 .f32 := broadcastInDim S16384x1000 ![] bcast_S_S16384x1000 main_cst_2
  let main_v15 : FVec F S16384x1000 .f32 := maximumf main_v13 main_v14
  let main_cst_3 : FVec F S_ .f32 := constant S_ .f32 0x7F800000#32
  let main_v16 : FVec F S16384 .f32 := (fun x v => Host.reduce FloatOps.minimumf x v reducesTo_S16384x1000_S16384_d1 h_S_) main_v15 main_cst_3
  let main_v17 : FVec F S16384x1 .f32 := broadcastInDim S16384x1 ![0] bcast_S16384_S16384x1_0 main_v16
  let main_v18 : FVec F S16384x1000 .f32 := broadcastInDim S16384x1000 ![0, 1] bcast_S16384x1_S16384x1000_0_1 main_v17
  fn_part1 (F := F) main_v15 main_v18
-- ==== Kernel.lean ====
abbrev S16384x16 : Shape := ⟨2, ![16384, 16]⟩
abbrev S1000x16 : Shape := ⟨2, ![1000, 16]⟩
abbrev S_ : Shape := ⟨0, ![]⟩
abbrev S1000 : Shape := ⟨1, ![1000]⟩
abbrev S1x1000 : Shape := ⟨2, ![1, 1000]⟩
abbrev S16384x1000 : Shape := ⟨2, ![16384, 1000]⟩
abbrev S8x1x2048 : Shape := ⟨3, ![8, 1, 2048]⟩
abbrev S2048x16 : Shape := ⟨2, ![2048, 16]⟩
abbrev S1x1x2048 : Shape := ⟨3, ![1, 1, 2048]⟩
abbrev S2x2048x1000 : Shape := ⟨3, ![2, 2048, 1000]⟩
abbrev S2x2 : Shape := ⟨2, ![2, 2]⟩
abbrev S1x1 : Shape := ⟨2, ![1, 1]⟩
abbrev S2048x896 : Shape := ⟨2, ![2048, 896]⟩
abbrev S1x2048x896 : Shape := ⟨3, ![1, 2048, 896]⟩
abbrev S2048x104 : Shape := ⟨2, ![2048, 104]⟩
abbrev S1x2048x104 : Shape := ⟨3, ![1, 2048, 104]⟩
abbrev S2048 : Shape := ⟨1, ![2048]⟩
abbrev S2048x1 : Shape := ⟨2, ![2048, 1]⟩
abbrev S2048x1000 : Shape := ⟨2, ![2048, 1000]⟩
abbrev S1x2048x1000 : Shape := ⟨3, ![1, 2048, 1000]⟩
abbrev S16384 : Shape := ⟨1, ![16384]⟩

abbrev nBuf : Space → Nat
  | .hbm => 11
  | .vmem => 9
  | .smem => 0
  | _ => 0

abbrev bufTy : (tb : Table) → Fin (tcTables nBuf tb) → BufTy
  | .hbm, ⟨0, _⟩ => ⟨S16384x16, .f32⟩
  | .hbm, ⟨1, _⟩ => ⟨S1000x16, .f32⟩
  | .hbm, ⟨2, _⟩ => ⟨S1000x16, .f32⟩
  | .hbm, ⟨3, _⟩ => ⟨S_, .f32⟩
  | .hbm, ⟨4, _⟩ => ⟨S1000, .f32⟩
  | .hbm, ⟨5, _⟩ => ⟨S1x1000, .f32⟩
  | .hbm, ⟨6, _⟩ => ⟨S16384x1000, .f32⟩
  | .hbm, ⟨7, _⟩ => ⟨S8x1x2048, .i32⟩
  | .hbm, ⟨8, _⟩ => ⟨S8x1x2048, .f32⟩
  | .hbm, ⟨9, _⟩ => ⟨S16384, .i32⟩
  | .hbm, ⟨10, _⟩ => ⟨S16384, .f32⟩
  | .local _ .vmem, ⟨0, _⟩ => ⟨S2048x16, .f32⟩
  | .local _ .vmem, ⟨1, _⟩ => ⟨S2048x16, .f32⟩
  | .local _ .vmem, ⟨2, _⟩ => ⟨S1000x16, .f32⟩
  | .local _ .vmem, ⟨3, _⟩ => ⟨S1x1000, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .f32⟩
  | .local _ .vmem, ⟨7, _⟩ => ⟨S1x1x2048, .f32⟩
  | .local _ .vmem, ⟨8, _⟩ => ⟨S2x2048x1000, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k0_off1 (i : grid0.Coords) : Fin 2 → Nat :=
  let arg0 : BitVec 32 := BitVec.ofNat 32 (i 0).val
  let c2_i32 : BitVec 32 := 2#32
  let v0 : BitVec 32 := Scalar.remsi arg0 c2_i32
  let c0_i32_27 : BitVec 32 := 0#32
  ![v0.toNat, 0]
def k0_off2 (i : grid0.Coords) : Fin 2 → Nat :=
  let arg0 : BitVec 32 := BitVec.ofNat 32 (i 0).val
  let c2_i32_25 : BitVec 32 := 2#32
  let v47 : BitVec 32 := Scalar.subi arg0 c2_i32_25
  let c2048_i32_26 : BitVec 32 := 2048#32
  let v48 : BitVec 32 := Scalar.muli v47 c2048_i32_26
  let c0_i32_28 : BitVec 32 := 0#32
  ![v48.toNat, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_29 : BitVec 32 := 0#32
  let c0_i32_30 : BitVec 32 := 0#32
  ![v0.toNat, 0, 0]
def k0_off4 (i : grid0.Coords) : Fin 2 → Nat :=
  let arg0 : BitVec 32 := BitVec.ofNat 32 (i 0).val
  let c2_i32 : BitVec 32 := 2#32
  let v0 : BitVec 32 := Scalar.remsi arg0 c2_i32
  let c1_i32_31 : BitVec 32 := 1#32
  ![v0.toNat, 1]
def k0_off5 (i : grid0.Coords) : Fin 2 → Nat :=
  let arg0 : BitVec 32 := BitVec.ofNat 32 (i 0).val
  let c2_i32_25 : BitVec 32 := 2#32
  let v47 : BitVec 32 := Scalar.subi arg0 c2_i32_25
  let c2048_i32_26 : BitVec 32 := 2048#32
  let v48 : BitVec 32 := Scalar.muli v47 c2048_i32_26
  let c896_i32_32 : BitVec 32 := 896#32
  ![v48.toNat, 896]
def k0_off6 (i : grid0.Coords) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c896_i32_34 : BitVec 32 := 896#32
  ![v0.toNat, 0, 896]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v23 : Index := Scalar.indexCast v0
  let c0_10 : Index := 0#32
  let c0_11 : Index := 0#32
  ![v23.toNat, 0, 0]
def k0_off8 (i : grid0.Coords) : Fin 2 → Nat :=
  let arg0 : BitVec 32 := BitVec.ofNat 32 (i 0).val
  let c2_i32 : BitVec 32 := 2#32
  let v0 : BitVec 32 := Scalar.remsi arg0 c2_i32
  let c0_i32_18 : BitVec 32 := 0#32
  ![v0.toNat, 0]
def k0_off9 (i : grid0.Coords) : Fin 2 → Nat :=
  let arg0 : BitVec 32 := BitVec.ofNat 32 (i 0).val
  let c2048_i32 : BitVec 32 := 2048#32
  let v33 : BitVec 32 := Scalar.muli arg0 c2048_i32
  let c0_i32_19 : BitVec 32 := 0#32
  ![v33.toNat, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c0_i32_21 : BitVec 32 := 0#32
  ![v0.toNat, 0, 0]
def k0_off11 (i : grid0.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k0_off12 (i : grid0.Coords) : Fin 2 → Nat :=
  let arg0 : BitVec 32 := BitVec.ofNat 32 (i 0).val
  let c2048_i32 : BitVec 32 := 2048#32
  let v33 : BitVec 32 := Scalar.muli arg0 c2048_i32
  let c896_i32 : BitVec 32 := 896#32
  ![v33.toNat, 896]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_22 : BitVec 32 := 0#32
  let c896_i32_23 : BitVec 32 := 896#32
  ![v0.toNat, 0, 896]
def k0_cond2 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_24 : BitVec 32 := 0#32
  let v46 : BitVec 1 := Scalar.cmpi .ne v45 c0_i32_24
  v46

def k0_off14 (i : grid0.Coords) : Fin 2 → Nat :=
  let c1_i32_26 : BitVec 32 := 1#32
  let arg0 : BitVec 32 := BitVec.ofNat 32 (i 0).val
  let c2_i32 : BitVec 32 := 2#32
  let v0 : BitVec 32 := Scalar.remsi arg0 c2_i32
  let v48 : BitVec 32 := Scalar.subi c1_i32_26 v0
  let c0_i32_28 : BitVec 32 := 0#32
  ![v48.toNat, 0]
def k0_off15 (i : grid0.Coords) : Fin 2 → Nat :=
  let arg0 : BitVec 32 := BitVec.ofNat 32 (i 0).val
  let c1_i32_25 : BitVec 32 := 1#32
  let v47 : BitVec 32 := Scalar.subi arg0 c1_i32_25
  let c2048_i32_27 : BitVec 32 := 2048#32
  let v49 : BitVec 32 := Scalar.muli v47 c2048_i32_27
  let c0_i32_29 : BitVec 32 := 0#32
  ![v49.toNat, 0]
def k0_off16 (i : grid0.Coords) : Fin 3 → Nat :=
  let c1_i32_26 : BitVec 32 := 1#32
  let arg0 : BitVec 32 := BitVec.ofNat 32 (i 0).val
  let c2_i32 : BitVec 32 := 2#32
  let v0 : BitVec 32 := Scalar.remsi arg0 c2_i32
  let v48 : BitVec 32 := Scalar.subi c1_i32_26 v0
  let c0_i32_30 : BitVec 32 := 0#32
  let c0_i32_31 : BitVec 32 := 0#32
  ![v48.toNat, 0, 0]
def k0_off17 (i : grid0.Coords) : Fin 2 → Nat :=
  let c1_i32_26 : BitVec 32 := 1#32
  let arg0 : BitVec 32 := BitVec.ofNat 32 (i 0).val
  let c2_i32 : BitVec 32 := 2#32
  let v0 : BitVec 32 := Scalar.remsi arg0 c2_i32
  let v48 : BitVec 32 := Scalar.subi c1_i32_26 v0
  let c1_i32_32 : BitVec 32 := 1#32
  ![v48.toNat, 1]
def k0_off18 (i : grid0.Coords) : Fin 2 → Nat :=
  let arg0 : BitVec 32 := BitVec.ofNat 32 (i 0).val
  let c1_i32_25 : BitVec 32 := 1#32
  let v47 : BitVec 32 := Scalar.subi arg0 c1_i32_25
  let c2048_i32_27 : BitVec 32 := 2048#32
  let v49 : BitVec 32 := Scalar.muli v47 c2048_i32_27
  let c896_i32_33 : BitVec 32 := 896#32
  ![v49.toNat, 896]
def k0_off19 (i : grid0.Coords) : Fin 3 → Nat :=
  let c1_i32_26 : BitVec 32 := 1#32
  let arg0 : BitVec 32 := BitVec.ofNat 32 (i 0).val
  let c2_i32 : BitVec 32 := 2#32
  let v0 : BitVec 32 := Scalar.remsi arg0 c2_i32
  let v48 : BitVec 32 := Scalar.subi c1_i32_26 v0
  let c0_i32_34 : BitVec 32 := 0#32
  let c896_i32_35 : BitVec 32 := 896#32
  ![v48.toNat, 0, 896]
def k0_off20 (i : grid0.Coords) : Fin 2 → Nat :=
  let arg0 : BitVec 32 := BitVec.ofNat 32 (i 0).val
  let c2_i32 : BitVec 32 := 2#32
  let v0 : BitVec 32 := Scalar.remsi arg0 c2_i32
  let c0_i32_37 : BitVec 32 := 0#32
  ![v0.toNat, 0]
def k0_off21 (i : grid0.Coords) : Fin 2 → Nat :=
  let arg0 : BitVec 32 := BitVec.ofNat 32 (i 0).val
  let c2048_i32_36 : BitVec 32 := 2048#32
  let v60 : BitVec 32 := Scalar.muli arg0 c2048_i32_36
  let c0_i32_38 : BitVec 32 := 0#32
  ![v60.toNat, 0]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c0_i32_39 : BitVec 32 := 0#32
  let c0_i32_40 : BitVec 32 := 0#32
  ![v0.toNat, 0, 0]
def k0_off23 (i : grid0.Coords) : Fin 2 → Nat :=
  let arg0 : BitVec 32 := BitVec.ofNat 32 (i 0).val
  let c2_i32 : BitVec 32 := 2#32
  let v0 : BitVec 32 := Scalar.remsi arg0 c2_i32
  let c1_i32_41 : BitVec 32 := 1#32
  ![v0.toNat, 1]
def k0_off24 (i : grid0.Coords) : Fin 2 → Nat :=
  let arg0 : BitVec 32 := BitVec.ofNat 32 (i 0).val
  let c2048_i32_36 : BitVec 32 := 2048#32
  let v60 : BitVec 32 := Scalar.muli arg0 c2048_i32_36
  let c896_i32_42 : BitVec 32 := 896#32
  ![v60.toNat, 896]
def k0_off25 (i : grid0.Coords) : Fin 3 → Nat :=
  let arg0 : BitVec 32 := BitVec.ofNat 32 (i 0).val
  let c2_i32 : BitVec 32 := 2#32
  let v0 : BitVec 32 := Scalar.remsi arg0 c2_i32
  let c0_i32_43 : BitVec 32 := 0#32
  let c896_i32_44 : BitVec 32 := 896#32
  ![v0.toNat, 0, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x16 : Shape := ⟨2, ![16384, 16]⟩
abbrev S1000x16 : Shape := ⟨2, ![1000, 16]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S16x1000 : Shape := ⟨2, ![16, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S1000x16, .f32⟩
  | .hbm, ⟨2, _⟩ => ⟨S16384x16, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x16, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S16x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | .hbm, ⟨22, _⟩ => ⟨S16384x1000, .f32⟩
  | .hbm, ⟨23, _⟩ => ⟨S16384x1000, .i32⟩
  | .hbm, ⟨24, _⟩ => ⟨S_, .f32⟩
  | .hbm, ⟨25, _⟩ => ⟨S_, .i32⟩
  | .hbm, ⟨26, _⟩ => ⟨S16384, .f32⟩
  | .hbm, ⟨27, _⟩ => ⟨S16384, .i32⟩
  | .hbm, ⟨28, _⟩ => ⟨S16384x1, .i32⟩
  | .hbm, ⟨29, _⟩ => ⟨S_, .i32⟩
  | .hbm, ⟨30, _⟩ => ⟨S16384x1, .i32⟩
  | .hbm, ⟨31, _⟩ => ⟨S16384x1, .i1⟩
  | .hbm, ⟨32, _⟩ => ⟨S_, .i32⟩
  | .hbm, ⟨33, _⟩ => ⟨S16384x1, .i32⟩
  | .hbm, ⟨34, _⟩ => ⟨S16384x1, .i32⟩
  | .hbm, ⟨35, _⟩ => ⟨S16384x1, .i32⟩
  | .hbm, ⟨36, _⟩ => ⟨S16384x1x1, .i32⟩
  | .hbm, ⟨37, _⟩ => ⟨S1, .i32⟩
  | .hbm, ⟨38, _⟩ => ⟨S_, .i32⟩
  | .hbm, ⟨39, _⟩ => ⟨S16384x1x1, .i32⟩
  | .hbm, ⟨40, _⟩ => ⟨S16384x1x1, .i1⟩
  | .hbm, ⟨41, _⟩ => ⟨S1x1x1, .i32⟩
  | .hbm, ⟨42, _⟩ => ⟨S16384x1x1, .i32⟩
  | .hbm, ⟨43, _⟩ => ⟨S16384x1x1, .i1⟩
  | .hbm, ⟨44, _⟩ => ⟨S16384x1x1, .i1⟩
  | .hbm, ⟨45, _⟩ => ⟨S_, .i1⟩
  | .hbm, ⟨46, _⟩ => ⟨S16384x1, .i1⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384, .f32⟩
  | .hbm, ⟨52, _⟩ => ⟨S16384, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Own.KernelIdeal.Ring.lean ====
/- The double buffer of kernel 0 as a write ring: two scratch slots, each filled by one store and copied out by two
   transfers (columns 0..896 and 896..1000), waited for two grid points later. This module names the slots, the tiles the
   transfers read, the pieces of the result they write and the semaphore cells they are counted on, shows how they tile
   their buffers, and rewrites the body's operands at point t to those names. -/
module

public import proofs.«01_k».proof.Proof.Gen.KernelIdeal.Frame
public import proofs.«01_k».proof.Proof.Gen.KernelIdeal.Skeleton
public import Idealize.ShloMosaic.Lib.Ring.WriteBehind

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-! ## The two buffers and the cells -/

/-- The scratch, whole. -/
abbrev scr : Memref sig .tc .vmem S2x2048x1000 .f32 := Memref.whole cc0_scratch0
/-- The distance matrix in HBM, whole. -/
abbrev out : Memref sig .tc .hbm S16384x1000 .f32 := Memref.whole main_v3_0
/-- The contents of the buffer memref `M` lies in. -/
abbrev Cont (c : Dev nD) {sp : Space} {S : Shape} {e : EltTy} (M : Memref sig .tc sp S e) : Type :=
  Buf (Elt F) (M.view.loc (c : Thread nD τ))
/-- The elements of memref `M`, held in full at `f`. -/
abbrev held (c : Dev nD) {sp : Space} {S : Shape} {e : EltTy} (M : Memref sig .tc sp S e) (f : Cont (F := F) c M) : sProp 𝕄 :=
  M.view.loc (c : Thread nD τ) ↦[M.view.set]{fullShare} f

theorem inb_slot (g : Fin 2) : ∀ a, (![g.val, 0, 0] : Fin 3 → Nat) a + S1x2048x1000.size a ≤ S2x2048x1000.size a := by
  have := g.isLt; intro a; fin_cases a <;> simp <;> omega
theorem inb_tileA (g : Fin 2) : ∀ a, (![g.val, 0, 0] : Fin 3 → Nat) a + S1x2048x896.size a ≤ S2x2048x1000.size a := by
  have := g.isLt; intro a; fin_cases a <;> simp <;> omega
theorem inb_tileB (g : Fin 2) : ∀ a, (![g.val, 0, 896] : Fin 3 → Nat) a + S1x2048x104.size a ≤ S2x2048x1000.size a := by
  have := g.isLt; intro a; fin_cases a <;> simp <;> omega
theorem inb_pieceA (u : Fin 8) : ∀ a, (![2048 * u.val, 0] : Fin 2 → Nat) a + S2048x896.size a ≤ S16384x1000.size a := by
  have := u.isLt; intro a; fin_cases a <;> simp <;> omega
theorem inb_pieceB (u : Fin 8) : ∀ a, (![2048 * u.val, 896] : Fin 2 → Nat) a + S2048x104.size a ≤ S16384x1000.size a := by
  have := u.isLt; intro a; fin_cases a <;> simp <;> omega
theorem inb_cell (g m : Fin 2) : ∀ a, (![g.val, m.val] : Fin 2 → Nat) a + S1x1.size a ≤ S2x2.size a := by
  have := g.isLt; have := m.isLt; intro a; fin_cases a <;> simp <;> omega

/-- Slot `g` of the scratch: what one grid point's store fills. -/
def slot (g : Fin 2) : Memref sig .tc .vmem S1x2048x1000 .f32 :=
  scr.slice (Rect.unit (s := S2x2048x1000) ![g.val, 0, 0] S1x2048x1000.size (inb_slot g)) (fun _ => rfl)
/-- Columns 0..896 of slot `g`: what the first transfer reads. -/
def tileA (g : Fin 2) : Memref sig .tc .vmem S2048x896 .f32 :=
  (scr.slice (Rect.unit (s := S2x2048x1000) ![g.val, 0, 0] S1x2048x896.size (inb_tileA g)) (fun _ => rfl)).squeeze S2048x896 squeezes_S1x2048x896_S2048x896
/-- Columns 896..1000 of slot `g`: what the second transfer reads. -/
def tileB (g : Fin 2) : Memref sig .tc .vmem S2048x104 .f32 :=
  (scr.slice (Rect.unit (s := S2x2048x1000) ![g.val, 0, 896] S1x2048x104.size (inb_tileB g)) (fun _ => rfl)).squeeze S2048x104 squeezes_S1x2048x104_S2048x104
/-- Row block `u`, columns 0..896, of the result: what the first transfer of point `u` writes. -/
def pieceA (u : Fin 8) : Memref sig .tc .hbm S2048x896 .f32 :=
  out.slice (Rect.unit (s := S16384x1000) ![2048 * u.val, 0] S2048x896.size (inb_pieceA u)) (fun _ => rfl)
/-- Row block `u`, columns 896..1000, of the result: what the second transfer of point `u` writes. -/
def pieceB (u : Fin 8) : Memref sig .tc .hbm S2048x104 .f32 :=
  out.slice (Rect.unit (s := S16384x1000) ![2048 * u.val, 896] S2048x104.size (inb_pieceB u)) (fun _ => rfl)
/-- Cell `(g, m)`: where transfer `m` out of slot `g` is counted. -/
def cellAt (g m : Fin 2) : DmaSems sig S_ :=
  (cc0_scratch1.slice (Rect.unit (s := S2x2) ![g.val, m.val] S1x1.size (inb_cell g m))).squeeze S_ squeezes_S1x1_S_
/-- Its place in the pool. -/
abbrev cellR (g m : Fin 2) : SemLoc sig := SemLoc.dma (cellAt g m).sem
theorem cellR_00 : cellR 0 0 = SemLoc.dma 8 := by decide
theorem cellR_01 : cellR 0 1 = SemLoc.dma 9 := by decide
theorem cellR_10 : cellR 1 0 = SemLoc.dma 10 := by decide
theorem cellR_11 : cellR 1 1 = SemLoc.dma 11 := by decide

/-! ## How they lie -/

/-- The elements of slot `g` in the scratch. -/
abbrev slotS (g : Fin 2) : Finset S2x2048x1000.Idx := (Rect.unit (s := S2x2048x1000) ![g.val, 0, 0] S1x2048x1000.size (inb_slot g)).set
/-- Those of its columns 0..896. -/
abbrev tileAS (g : Fin 2) : Finset S2x2048x1000.Idx := (Rect.unit (s := S2x2048x1000) ![g.val, 0, 0] S1x2048x896.size (inb_tileA g)).set
/-- Those of its columns 896..1000. -/
abbrev tileBS (g : Fin 2) : Finset S2x2048x1000.Idx := (Rect.unit (s := S2x2048x1000) ![g.val, 0, 896] S1x2048x104.size (inb_tileB g)).set
/-- The elements of row block `u` of the result with columns below 896. -/
abbrev pieceAS (u : Fin 8) : Finset S16384x1000.Idx := (Rect.unit (s := S16384x1000) ![2048 * u.val, 0] S2048x896.size (inb_pieceA u)).set
/-- Those with columns from 896 on. -/
abbrev pieceBS (u : Fin 8) : Finset S16384x1000.Idx := (Rect.unit (s := S16384x1000) ![2048 * u.val, 896] S2048x104.size (inb_pieceB u)).set

theorem slot_set (g : Fin 2) : (slot g).view.set = slotS g := by
  simp only [slot]; exact View.set_slice_whole _ _
theorem tileA_set (g : Fin 2) : (tileA g).view.set = tileAS g := by
  simp only [tileA, Memref.view_squeeze, View.set_reshape]; exact View.set_slice_whole _ _
theorem tileB_set (g : Fin 2) : (tileB g).view.set = tileBS g := by
  simp only [tileB, Memref.view_squeeze, View.set_reshape]; exact View.set_slice_whole _ _
theorem pieceA_set (u : Fin 8) : (pieceA u).view.set = pieceAS u := by
  simp only [pieceA]; exact View.set_slice_whole _ _
theorem pieceB_set (u : Fin 8) : (pieceB u).view.set = pieceBS u := by
  simp only [pieceB]; exact View.set_slice_whole _ _

/-- The two tiles of a slot share no element. -/
theorem tiles_disjoint (g : Fin 2) : Disjoint (tileAS g) (tileBS g) := Rect.unit_disjoint 2 (.inl (Nat.le_refl 896))
/-- Together they are the slot. -/
theorem tiles_union (g : Fin 2) : tileAS g ∪ tileBS g = slotS g := by
  ext y
  have h2 : (y 2).val < 1000 := (y 2).isLt
  rw [Finset.mem_union, Rect.mem_set_unit, Rect.mem_set_unit, Rect.mem_set_unit]
  constructor
  · rintro (h | h) <;> intro a <;> have h0 := h 0 <;> have h1 := h 1 <;> have h2 := h 2 <;> fin_cases a <;> simp at h0 h1 h2 ⊢ <;> omega
  · intro h
    by_cases hc : (y 2).val < 896
    · refine .inl ?_; intro a; have h0 := h 0; have h1 := h 1; fin_cases a <;> simp at h0 h1 ⊢ <;> omega
    · refine .inr ?_; intro a; have h0 := h 0; have h1 := h 1; fin_cases a <;> simp at h0 h1 ⊢ <;> omega
/-- The two slots share no element. -/
theorem slots_disjoint (g g' : Fin 2) (h : g ≠ g') : Disjoint (slotS g) (slotS g') := by
  refine Rect.unit_disjoint 0 ?_
  have : g.val ≠ g'.val := fun e => h (Fin.ext e)
  simp; omega
/-- Together they are the scratch. -/
theorem slots_union : Finset.univ.biUnion slotS = Finset.univ := by
  ext y
  simp only [Finset.mem_biUnion, Finset.mem_univ, true_and, iff_true]
  have h0 : (y 0).val < 2 := (y 0).isLt
  have h1 : (y 1).val < 2048 := (y 1).isLt
  have h2 : (y 2).val < 1000 := (y 2).isLt
  refine ⟨⟨(y 0).val, h0⟩, ?_⟩
  rw [Rect.mem_set_unit]
  intro a; fin_cases a <;> simp <;> omega

/-- The elements of row block `i.1` with columns below 896 (`i.2 = 0`) or from 896 on (`i.2 = 1`). -/
def pset (i : Fin 8 × Fin 2) : Finset S16384x1000.Idx := if i.2 = 0 then pieceAS i.1 else pieceBS i.1
theorem pset_zero (u : Fin 8) : pset (u, 0) = pieceAS u := if_pos rfl
theorem pset_one (u : Fin 8) : pset (u, 1) = pieceBS u := if_neg (show ¬(1 : Fin 2) = 0 by decide)
/-- No two of these sixteen pieces share an element. -/
theorem pieces_disjoint (i i' : Fin 8 × Fin 2) (h : i ≠ i') : Disjoint (pset i) (pset i') := by
  obtain ⟨u, a⟩ := i; obtain ⟨u', a'⟩ := i'
  have key : (u.val ≠ u'.val) ∨ (u = u' ∧ a ≠ a') := by
    by_cases hu : u = u'
    · exact .inr ⟨hu, fun e => h (by rw [hu, e])⟩
    · exact .inl fun e => hu (Fin.ext e)
  fin_cases a <;> fin_cases a' <;> simp only [Fin.zero_eta, Fin.mk_one, pset_zero, pset_one]
  · refine Rect.unit_disjoint 0 ?_
    rcases key with k | ⟨-, k⟩
    · simp; omega
    · exact absurd rfl k
  · exact Rect.unit_disjoint 1 (.inl (Nat.le_refl 896))
  · exact Rect.unit_disjoint 1 (.inr (Nat.le_refl 896))
  · refine Rect.unit_disjoint 0 ?_
    rcases key with k | ⟨-, k⟩
    · simp; omega
    · exact absurd rfl k
/-- Together they are the result. -/
theorem pieces_union : Finset.univ.biUnion pset = Finset.univ := by
  ext y
  simp only [Finset.mem_biUnion, Finset.mem_univ, true_and, iff_true]
  have h0 : (y 0).val < 16384 := (y 0).isLt
  have h1 : (y 1).val < 1000 := (y 1).isLt
  by_cases hc : (y 1).val < 896
  · refine ⟨(⟨(y 0).val / 2048, by omega⟩, 0), ?_⟩
    rw [pset_zero, Rect.mem_set_unit]
    intro a; fin_cases a <;> simp <;> omega
  · refine ⟨(⟨(y 0).val / 2048, by omega⟩, 1), ?_⟩
    rw [pset_one, Rect.mem_set_unit]
    intro a; fin_cases a <;> simp <;> omega

section Lend
variable (c : Dev nD)
theorem held_slot (g : Fin 2) (f : Cont (F := F) c (slot g)) : held c (slot g) f = (((c : Thread nD τ).loc cc0_scratch0) ↦[slotS g]{fullShare} f : sProp 𝕄) := by
  unfold held; rw [slot_set]; rfl
theorem held_tileA (g : Fin 2) (f : Cont (F := F) c (tileA g)) : held c (tileA g) f = (((c : Thread nD τ).loc cc0_scratch0) ↦[tileAS g]{fullShare} f : sProp 𝕄) := by
  unfold held; rw [tileA_set]; rfl
theorem held_tileB (g : Fin 2) (f : Cont (F := F) c (tileB g)) : held c (tileB g) f = (((c : Thread nD τ).loc cc0_scratch0) ↦[tileBS g]{fullShare} f : sProp 𝕄) := by
  unfold held; rw [tileB_set]; rfl
theorem held_pieceA (u : Fin 8) (f : Cont (F := F) c (pieceA u)) : held c (pieceA u) f = (((c : Thread nD τ).loc main_v3_0) ↦[pieceAS u]{fullShare} f : sProp 𝕄) := by
  unfold held; rw [pieceA_set]; rfl
theorem held_pieceB (u : Fin 8) (f : Cont (F := F) c (pieceB u)) : held c (pieceB u) f = (((c : Thread nD τ).loc main_v3_0) ↦[pieceBS u]{fullShare} f : sProp 𝕄) := by
  unfold held; rw [pieceB_set]; rfl
/-- A slot held whole is its two tiles. -/
theorem slot_split (g : Fin 2) (f : Cont (F := F) c (slot g)) :
    held c (slot g) f ⊢ (iprop(held c (tileA g) f ∗ held c (tileB g) f) : sProp 𝕄) := by
  have h : (((c : Thread nD τ).loc cc0_scratch0) ↦[slotS g]{fullShare} f : sProp 𝕄)
      ⊢ iprop((((c : Thread nD τ).loc cc0_scratch0) ↦[tileAS g]{fullShare} f) ∗ ((c : Thread nD τ).loc cc0_scratch0) ↦[tileBS g]{fullShare} f) := by
    rw [← tiles_union g]
    exact (pointsTo_union (tiles_disjoint g)).1
  iintro H
  ihave H' := (Entails.of_eq (held_slot c g f)) $$ H
  ihave H'' := h $$ H'
  icases H'' with ⟨HA, HB⟩
  isplitl [HA]
  · iapply (Entails.of_eq (held_tileA c g f).symm); iexact HA
  · iapply (Entails.of_eq (held_tileB c g f).symm); iexact HB
/-- Two tiles, each at contents of its own, are the slot at some contents. -/
theorem slot_join (g : Fin 2) (f : Cont (F := F) c (tileA g)) (f' : Cont (F := F) c (tileB g)) :
    (iprop(held c (tileA g) f ∗ held c (tileB g) f') : sProp 𝕄) ⊢ iprop(∃ e, held c (slot g) e) := by
  have h : (iprop((((c : Thread nD τ).loc cc0_scratch0) ↦[tileAS g]{fullShare} f) ∗ ((c : Thread nD τ).loc cc0_scratch0) ↦[tileBS g]{fullShare} f') : sProp 𝕄)
      ⊢ (((c : Thread nD τ).loc cc0_scratch0) ↦[slotS g]{fullShare} (tileBS g).piecewise f' f) := by
    rw [← tiles_union g]
    exact pointsTo_join (tiles_disjoint g)
  iintro ⟨HA, HB⟩
  iexists ((tileBS g).piecewise f' f)
  iapply (Entails.of_eq (held_slot c g _).symm)
  iapply h
  isplitl [HA]
  · iapply (Entails.of_eq (held_tileA c g f)); iexact HA
  · iapply (Entails.of_eq (held_tileB c g f')); iexact HB
end Lend

/-! ## The body's two conditions -/

/-- The first conditional waits from point 2 on. -/
theorem cond1_iff : ∀ t : Fin grid0.N, k0_cond1 (grid0.coords t) = 1#1 ↔ 2 ≤ t.val := by decide +kernel
/-- The last one drains at point 7. -/
theorem cond2_iff : ∀ t : Fin grid0.N, k0_cond2 (grid0.coords t) = 1#1 ↔ t.val = 7 := by decide +kernel

/-! ## The body's operands at point t, by the names above -/

section Names
omit [FloatOps F]
set_option synthInstance.maxSize 4096 in
theorem off1_eq : ∀ t : Fin grid0.N, k0_off1 (grid0.coords t) = ![(Ring.sl 2 t.val).val, 0] := by decide +kernel
@[sl_canon] theorem name1 (t : Fin grid0.N) (h : k0_cond1 (grid0.coords t) = 1#1) :
    (cc0_scratch1.slice (Rect.unit (s := S2x2) (k0_off1 (grid0.coords t)) S1x1.size (k0_off1_inb (grid0.coords t) h))).squeeze S_ squeezes_S1x1_S_ = cellAt (Ring.sl 2 t.val) 0 :=
  congrArg (fun A : DmaSems sig S1x1 => A.squeeze S_ squeezes_S1x1_S_) (SemArray.slice_unit_congr _ (off1_eq t) _ _)
@[sl_canon] theorem name1' (t : Fin grid0.N) (h : k0_cond1 (grid0.coords t) = 1#1) :
    (cc0_scratch1.slice (Rect.unit (s := S2x2) (k0_off1 (grid0.coords t)) ![1, 1] (k0_off1_inb (grid0.coords t) h))).squeeze S_ squeezes_S1x1_S_ = cellAt (Ring.sl 2 t.val) 0 :=
  name1 t h
set_option synthInstance.maxSize 4096 in
theorem off3_eq : ∀ t : Fin grid0.N, k0_off3 (grid0.coords t) = ![(Ring.sl 2 t.val).val, 0, 0] := by decide +kernel
@[sl_canon] theorem name3 (t : Fin grid0.N) (h : k0_cond1 (grid0.coords t) = 1#1) :
    (scr.slice (Rect.unit (s := S2x2048x1000) (k0_off3 (grid0.coords t)) S1x2048x896.size (k0_off3_inb (grid0.coords t) h)) (fun _ => rfl)).squeeze S2048x896 squeezes_S1x2048x896_S2048x896 = tileA (Ring.sl 2 t.val) :=
  congrArg (fun M : Memref sig .tc .vmem S1x2048x896 .f32 => M.squeeze S2048x896 squeezes_S1x2048x896_S2048x896) (Memref.slice_unit_congr _ (off3_eq t) _ _ (fun _ => rfl) (fun _ => rfl))
@[sl_canon] theorem name3' (t : Fin grid0.N) (h : k0_cond1 (grid0.coords t) = 1#1) :
    (scr.slice (Rect.unit (s := S2x2048x1000) (k0_off3 (grid0.coords t)) ![1, 2048, 896] (k0_off3_inb (grid0.coords t) h)) (fun _ => rfl)).squeeze S2048x896 squeezes_S1x2048x896_S2048x896 = tileA (Ring.sl 2 t.val) :=
  name3 t h
set_option synthInstance.maxSize 4096 in
theorem off4_eq : ∀ t : Fin grid0.N, k0_off4 (grid0.coords t) = ![(Ring.sl 2 t.val).val, 1] := by decide +kernel
@[sl_canon] theorem name4 (t : Fin grid0.N) (h : k0_cond1 (grid0.coords t) = 1#1) :
    (cc0_scratch1.slice (Rect.unit (s := S2x2) (k0_off4 (grid0.coords t)) S1x1.size (k0_off4_inb (grid0.coords t) h))).squeeze S_ squeezes_S1x1_S_ = cellAt (Ring.sl 2 t.val) 1 :=
  congrArg (fun A : DmaSems sig S1x1 => A.squeeze S_ squeezes_S1x1_S_) (SemArray.slice_unit_congr _ (off4_eq t) _ _)
@[sl_canon] theorem name4' (t : Fin grid0.N) (h : k0_cond1 (grid0.coords t) = 1#1) :
    (cc0_scratch1.slice (Rect.unit (s := S2x2) (k0_off4 (grid0.coords t)) ![1, 1] (k0_off4_inb (grid0.coords t) h))).squeeze S_ squeezes_S1x1_S_ = cellAt (Ring.sl 2 t.val) 1 :=
  name4 t h
set_option synthInstance.maxSize 4096 in
theorem off6_eq : ∀ t : Fin grid0.N, k0_off6 (grid0.coords t) = ![(Ring.sl 2 t.val).val, 0, 896] := by decide +kernel
@[sl_canon] theorem name6 (t : Fin grid0.N) (h : k0_cond1 (grid0.coords t) = 1#1) :
    (scr.slice (Rect.unit (s := S2x2048x1000) (k0_off6 (grid0.coords t)) S1x2048x104.size (k0_off6_inb (grid0.coords t) h)) (fun _ => rfl)).squeeze S2048x104 squeezes_S1x2048x104_S2048x104 = tileB (Ring.sl 2 t.val) :=
  congrArg (fun M : Memref sig .tc .vmem S1x2048x104 .f32 => M.squeeze S2048x104 squeezes_S1x2048x104_S2048x104) (Memref.slice_unit_congr _ (off6_eq t) _ _ (fun _ => rfl) (fun _ => rfl))
@[sl_canon] theorem name6' (t : Fin grid0.N) (h : k0_cond1 (grid0.coords t) = 1#1) :
    (scr.slice (Rect.unit (s := S2x2048x1000) (k0_off6 (grid0.coords t)) ![1, 2048, 104] (k0_off6_inb (grid0.coords t) h)) (fun _ => rfl)).squeeze S2048x104 squeezes_S1x2048x104_S2048x104 = tileB (Ring.sl 2 t.val) :=
  name6 t h
set_option synthInstance.maxSize 4096 in
theorem off7_eq : ∀ t : Fin grid0.N, k0_off7 (grid0.coords t) = ![(Ring.sl 2 t.val).val, 0, 0] := by decide +kernel
/-- The box the body loads and stores at point t is slot t mod 2. -/
instance (priority := high) closed7 (t : Fin grid0.N) : ClosedOff (k0_off7 (grid0.coords t)) := ⟨![(Ring.sl 2 t.val).val, 0, 0], off7_eq t⟩
set_option synthInstance.maxSize 4096 in
theorem off8_eq : ∀ t : Fin grid0.N, k0_off8 (grid0.coords t) = ![(Ring.sl 2 t.val).val, 0] := by decide +kernel
@[sl_canon] theorem name8 (t : Fin grid0.N) :
    (cc0_scratch1.slice (Rect.unit (s := S2x2) (k0_off8 (grid0.coords t)) S1x1.size (k0_off8_inb (grid0.coords t)))).squeeze S_ squeezes_S1x1_S_ = cellAt (Ring.sl 2 t.val) 0 :=
  congrArg (fun A : DmaSems sig S1x1 => A.squeeze S_ squeezes_S1x1_S_) (SemArray.slice_unit_congr _ (off8_eq t) _ _)
@[sl_canon] theorem name8' (t : Fin grid0.N) :
    (cc0_scratch1.slice (Rect.unit (s := S2x2) (k0_off8 (grid0.coords t)) ![1, 1] (k0_off8_inb (grid0.coords t)))).squeeze S_ squeezes_S1x1_S_ = cellAt (Ring.sl 2 t.val) 0 :=
  name8 t
set_option synthInstance.maxSize 4096 in
theorem off9_eq : ∀ t : Fin grid0.N, k0_off9 (grid0.coords t) = ![2048 * (Ring.bk 8 t.val).val, 0] := by decide +kernel
@[sl_canon] theorem name9 (t : Fin grid0.N) :
    out.slice (Rect.unit (s := S16384x1000) (k0_off9 (grid0.coords t)) S2048x896.size (k0_off9_inb (grid0.coords t))) (fun _ => rfl) = pieceA (Ring.bk 8 t.val) :=
  Memref.slice_unit_congr _ (off9_eq t) _ _ (fun _ => rfl) (fun _ => rfl)
@[sl_canon] theorem name9' (t : Fin grid0.N) :
    out.slice (Rect.unit (s := S16384x1000) (k0_off9 (grid0.coords t)) ![2048, 896] (k0_off9_inb (grid0.coords t))) (fun _ => rfl) = pieceA (Ring.bk 8 t.val) :=
  name9 t
set_option synthInstance.maxSize 4096 in
theorem off10_eq : ∀ t : Fin grid0.N, k0_off10 (grid0.coords t) = ![(Ring.sl 2 t.val).val, 0, 0] := by decide +kernel
@[sl_canon] theorem name10 (t : Fin grid0.N) :
    (scr.slice (Rect.unit (s := S2x2048x1000) (k0_off10 (grid0.coords t)) S1x2048x896.size (k0_off10_inb (grid0.coords t))) (fun _ => rfl)).squeeze S2048x896 squeezes_S1x2048x896_S2048x896 = tileA (Ring.sl 2 t.val) :=
  congrArg (fun M : Memref sig .tc .vmem S1x2048x896 .f32 => M.squeeze S2048x896 squeezes_S1x2048x896_S2048x896) (Memref.slice_unit_congr _ (off10_eq t) _ _ (fun _ => rfl) (fun _ => rfl))
@[sl_canon] theorem name10' (t : Fin grid0.N) :
    (scr.slice (Rect.unit (s := S2x2048x1000) (k0_off10 (grid0.coords t)) ![1, 2048, 896] (k0_off10_inb (grid0.coords t))) (fun _ => rfl)).squeeze S2048x896 squeezes_S1x2048x896_S2048x896 = tileA (Ring.sl 2 t.val) :=
  name10 t
set_option synthInstance.maxSize 4096 in
theorem off11_eq : ∀ t : Fin grid0.N, k0_off11 (grid0.coords t) = ![(Ring.sl 2 t.val).val, 1] := by decide +kernel
@[sl_canon] theorem name11 (t : Fin grid0.N) :
    (cc0_scratch1.slice (Rect.unit (s := S2x2) (k0_off11 (grid0.coords t)) S1x1.size (k0_off11_inb (grid0.coords t)))).squeeze S_ squeezes_S1x1_S_ = cellAt (Ring.sl 2 t.val) 1 :=
  congrArg (fun A : DmaSems sig S1x1 => A.squeeze S_ squeezes_S1x1_S_) (SemArray.slice_unit_congr _ (off11_eq t) _ _)
@[sl_canon] theorem name11' (t : Fin grid0.N) :
    (cc0_scratch1.slice (Rect.unit (s := S2x2) (k0_off11 (grid0.coords t)) ![1, 1] (k0_off11_inb (grid0.coords t)))).squeeze S_ squeezes_S1x1_S_ = cellAt (Ring.sl 2 t.val) 1 :=
  name11 t
set_option synthInstance.maxSize 4096 in
theorem off12_eq : ∀ t : Fin grid0.N, k0_off12 (grid0.coords t) = ![2048 * (Ring.bk 8 t.val).val, 896] := by decide +kernel
@[sl_canon] theorem name12 (t : Fin grid0.N) :
    out.slice (Rect.unit (s := S16384x1000) (k0_off12 (grid0.coords t)) S2048x104.size (k0_off12_inb (grid0.coords t))) (fun _ => rfl) = pieceB (Ring.bk 8 t.val) :=
  Memref.slice_unit_congr _ (off12_eq t) _ _ (fun _ => rfl) (fun _ => rfl)
@[sl_canon] theorem name12' (t : Fin grid0.N) :
    out.slice (Rect.unit (s := S16384x1000) (k0_off12 (grid0.coords t)) ![2048, 104] (k0_off12_inb (grid0.coords t))) (fun _ => rfl) = pieceB (Ring.bk 8 t.val) :=
  name12 t
set_option synthInstance.maxSize 4096 in
theorem off13_eq : ∀ t : Fin grid0.N, k0_off13 (grid0.coords t) = ![(Ring.sl 2 t.val).val, 0, 896] := by decide +kernel
@[sl_canon] theorem name13 (t : Fin grid0.N) :
    (scr.slice (Rect.unit (s := S2x2048x1000) (k0_off13 (grid0.coords t)) S1x2048x104.size (k0_off13_inb (grid0.coords t))) (fun _ => rfl)).squeeze S2048x104 squeezes_S1x2048x104_S2048x104 = tileB (Ring.sl 2 t.val) :=
  congrArg (fun M : Memref sig .tc .vmem S1x2048x104 .f32 => M.squeeze S2048x104 squeezes_S1x2048x104_S2048x104) (Memref.slice_unit_congr _ (off13_eq t) _ _ (fun _ => rfl) (fun _ => rfl))
@[sl_canon] theorem name13' (t : Fin grid0.N) :
    (scr.slice (Rect.unit (s := S2x2048x1000) (k0_off13 (grid0.coords t)) ![1, 2048, 104] (k0_off13_inb (grid0.coords t))) (fun _ => rfl)).squeeze S2048x104 squeezes_S1x2048x104_S2048x104 = tileB (Ring.sl 2 t.val) :=
  name13 t
set_option synthInstance.maxSize 4096 in
theorem off14_eq : ∀ t : Fin grid0.N, k0_off14 (grid0.coords t) = ![(Ring.sl 2 (t.val + 1)).val, 0] := by decide +kernel
@[sl_canon] theorem name14 (t : Fin grid0.N) (h : k0_cond2 (grid0.coords t) = 1#1) :
    (cc0_scratch1.slice (Rect.unit (s := S2x2) (k0_off14 (grid0.coords t)) S1x1.size (k0_off14_inb (grid0.coords t) h))).squeeze S_ squeezes_S1x1_S_ = cellAt (Ring.sl 2 (t.val + 1)) 0 :=
  congrArg (fun A : DmaSems sig S1x1 => A.squeeze S_ squeezes_S1x1_S_) (SemArray.slice_unit_congr _ (off14_eq t) _ _)
@[sl_canon] theorem name14' (t : Fin grid0.N) (h : k0_cond2 (grid0.coords t) = 1#1) :
    (cc0_scratch1.slice (Rect.unit (s := S2x2) (k0_off14 (grid0.coords t)) ![1, 1] (k0_off14_inb (grid0.coords t) h))).squeeze S_ squeezes_S1x1_S_ = cellAt (Ring.sl 2 (t.val + 1)) 0 :=
  name14 t h
set_option synthInstance.maxSize 4096 in
theorem off16_eq : ∀ t : Fin grid0.N, k0_off16 (grid0.coords t) = ![(Ring.sl 2 (t.val + 1)).val, 0, 0] := by decide +kernel
@[sl_canon] theorem name16 (t : Fin grid0.N) (h : k0_cond2 (grid0.coords t) = 1#1) :
    (scr.slice (Rect.unit (s := S2x2048x1000) (k0_off16 (grid0.coords t)) S1x2048x896.size (k0_off16_inb (grid0.coords t) h)) (fun _ => rfl)).squeeze S2048x896 squeezes_S1x2048x896_S2048x896 = tileA (Ring.sl 2 (t.val + 1)) :=
  congrArg (fun M : Memref sig .tc .vmem S1x2048x896 .f32 => M.squeeze S2048x896 squeezes_S1x2048x896_S2048x896) (Memref.slice_unit_congr _ (off16_eq t) _ _ (fun _ => rfl) (fun _ => rfl))
@[sl_canon] theorem name16' (t : Fin grid0.N) (h : k0_cond2 (grid0.coords t) = 1#1) :
    (scr.slice (Rect.unit (s := S2x2048x1000) (k0_off16 (grid0.coords t)) ![1, 2048, 896] (k0_off16_inb (grid0.coords t) h)) (fun _ => rfl)).squeeze S2048x896 squeezes_S1x2048x896_S2048x896 = tileA (Ring.sl 2 (t.val + 1)) :=
  name16 t h
set_option synthInstance.maxSize 4096 in
theorem off17_eq : ∀ t : Fin grid0.N, k0_off17 (grid0.coords t) = ![(Ring.sl 2 (t.val + 1)).val, 1] := by decide +kernel
@[sl_canon] theorem name17 (t : Fin grid0.N) (h : k0_cond2 (grid0.coords t) = 1#1) :
    (cc0_scratch1.slice (Rect.unit (s := S2x2) (k0_off17 (grid0.coords t)) S1x1.size (k0_off17_inb (grid0.coords t) h))).squeeze S_ squeezes_S1x1_S_ = cellAt (Ring.sl 2 (t.val + 1)) 1 :=
  congrArg (fun A : DmaSems sig S1x1 => A.squeeze S_ squeezes_S1x1_S_) (SemArray.slice_unit_congr _ (off17_eq t) _ _)
@[sl_canon] theorem name17' (t : Fin grid0.N) (h : k0_cond2 (grid0.coords t) = 1#1) :
    (cc0_scratch1.slice (Rect.unit (s := S2x2) (k0_off17 (grid0.coords t)) ![1, 1] (k0_off17_inb (grid0.coords t) h))).squeeze S_ squeezes_S1x1_S_ = cellAt (Ring.sl 2 (t.val + 1)) 1 :=
  name17 t h
set_option synthInstance.maxSize 4096 in
theorem off19_eq : ∀ t : Fin grid0.N, k0_off19 (grid0.coords t) = ![(Ring.sl 2 (t.val + 1)).val, 0, 896] := by decide +kernel
@[sl_canon] theorem name19 (t : Fin grid0.N) (h : k0_cond2 (grid0.coords t) = 1#1) :
    (scr.slice (Rect.unit (s := S2x2048x1000) (k0_off19 (grid0.coords t)) S1x2048x104.size (k0_off19_inb (grid0.coords t) h)) (fun _ => rfl)).squeeze S2048x104 squeezes_S1x2048x104_S2048x104 = tileB (Ring.sl 2 (t.val + 1)) :=
  congrArg (fun M : Memref sig .tc .vmem S1x2048x104 .f32 => M.squeeze S2048x104 squeezes_S1x2048x104_S2048x104) (Memref.slice_unit_congr _ (off19_eq t) _ _ (fun _ => rfl) (fun _ => rfl))
@[sl_canon] theorem name19' (t : Fin grid0.N) (h : k0_cond2 (grid0.coords t) = 1#1) :
    (scr.slice (Rect.unit (s := S2x2048x1000) (k0_off19 (grid0.coords t)) ![1, 2048, 104] (k0_off19_inb (grid0.coords t) h)) (fun _ => rfl)).squeeze S2048x104 squeezes_S1x2048x104_S2048x104 = tileB (Ring.sl 2 (t.val + 1)) :=
  name19 t h
set_option synthInstance.maxSize 4096 in
theorem off20_eq : ∀ t : Fin grid0.N, k0_off20 (grid0.coords t) = ![(Ring.sl 2 t.val).val, 0] := by decide +kernel
@[sl_canon] theorem name20 (t : Fin grid0.N) (h : k0_cond2 (grid0.coords t) = 1#1) :
    (cc0_scratch1.slice (Rect.unit (s := S2x2) (k0_off20 (grid0.coords t)) S1x1.size (k0_off20_inb (grid0.coords t) h))).squeeze S_ squeezes_S1x1_S_ = cellAt (Ring.sl 2 t.val) 0 :=
  congrArg (fun A : DmaSems sig S1x1 => A.squeeze S_ squeezes_S1x1_S_) (SemArray.slice_unit_congr _ (off20_eq t) _ _)
@[sl_canon] theorem name20' (t : Fin grid0.N) (h : k0_cond2 (grid0.coords t) = 1#1) :
    (cc0_scratch1.slice (Rect.unit (s := S2x2) (k0_off20 (grid0.coords t)) ![1, 1] (k0_off20_inb (grid0.coords t) h))).squeeze S_ squeezes_S1x1_S_ = cellAt (Ring.sl 2 t.val) 0 :=
  name20 t h
set_option synthInstance.maxSize 4096 in
theorem off22_eq : ∀ t : Fin grid0.N, k0_off22 (grid0.coords t) = ![(Ring.sl 2 t.val).val, 0, 0] := by decide +kernel
@[sl_canon] theorem name22 (t : Fin grid0.N) (h : k0_cond2 (grid0.coords t) = 1#1) :
    (scr.slice (Rect.unit (s := S2x2048x1000) (k0_off22 (grid0.coords t)) S1x2048x896.size (k0_off22_inb (grid0.coords t) h)) (fun _ => rfl)).squeeze S2048x896 squeezes_S1x2048x896_S2048x896 = tileA (Ring.sl 2 t.val) :=
  congrArg (fun M : Memref sig .tc .vmem S1x2048x896 .f32 => M.squeeze S2048x896 squeezes_S1x2048x896_S2048x896) (Memref.slice_unit_congr _ (off22_eq t) _ _ (fun _ => rfl) (fun _ => rfl))
@[sl_canon] theorem name22' (t : Fin grid0.N) (h : k0_cond2 (grid0.coords t) = 1#1) :
    (scr.slice (Rect.unit (s := S2x2048x1000) (k0_off22 (grid0.coords t)) ![1, 2048, 896] (k0_off22_inb (grid0.coords t) h)) (fun _ => rfl)).squeeze S2048x896 squeezes_S1x2048x896_S2048x896 = tileA (Ring.sl 2 t.val) :=
  name22 t h
set_option synthInstance.maxSize 4096 in
theorem off23_eq : ∀ t : Fin grid0.N, k0_off23 (grid0.coords t) = ![(Ring.sl 2 t.val).val, 1] := by decide +kernel
@[sl_canon] theorem name23 (t : Fin grid0.N) (h : k0_cond2 (grid0.coords t) = 1#1) :
    (cc0_scratch1.slice (Rect.unit (s := S2x2) (k0_off23 (grid0.coords t)) S1x1.size (k0_off23_inb (grid0.coords t) h))).squeeze S_ squeezes_S1x1_S_ = cellAt (Ring.sl 2 t.val) 1 :=
  congrArg (fun A : DmaSems sig S1x1 => A.squeeze S_ squeezes_S1x1_S_) (SemArray.slice_unit_congr _ (off23_eq t) _ _)
@[sl_canon] theorem name23' (t : Fin grid0.N) (h : k0_cond2 (grid0.coords t) = 1#1) :
    (cc0_scratch1.slice (Rect.unit (s := S2x2) (k0_off23 (grid0.coords t)) ![1, 1] (k0_off23_inb (grid0.coords t) h))).squeeze S_ squeezes_S1x1_S_ = cellAt (Ring.sl 2 t.val) 1 :=
  name23 t h
set_option synthInstance.maxSize 4096 in
theorem off25_eq : ∀ t : Fin grid0.N, k0_off25 (grid0.coords t) = ![(Ring.sl 2 t.val).val, 0, 896] := by decide +kernel
@[sl_canon] theorem name25 (t : Fin grid0.N) (h : k0_cond2 (grid0.coords t) = 1#1) :
    (scr.slice (Rect.unit (s := S2x2048x1000) (k0_off25 (grid0.coords t)) S1x2048x104.size (k0_off25_inb (grid0.coords t) h)) (fun _ => rfl)).squeeze S2048x104 squeezes_S1x2048x104_S2048x104 = tileB (Ring.sl 2 t.val) :=
  congrArg (fun M : Memref sig .tc .vmem S1x2048x104 .f32 => M.squeeze S2048x104 squeezes_S1x2048x104_S2048x104) (Memref.slice_unit_congr _ (off25_eq t) _ _ (fun _ => rfl) (fun _ => rfl))
@[sl_canon] theorem name25' (t : Fin grid0.N) (h : k0_cond2 (grid0.coords t) = 1#1) :
    (scr.slice (Rect.unit (s := S2x2048x1000) (k0_off25 (grid0.coords t)) ![1, 2048, 104] (k0_off25_inb (grid0.coords t) h)) (fun _ => rfl)).squeeze S2048x104 squeezes_S1x2048x104_S2048x104 = tileB (Ring.sl 2 t.val) :=
  name25 t h
end Names

end Cert.KernelIdeal.Own

end
-- ==== Proof.Own.KernelIdeal.Flight.lean ====
/- What the two transfers out of a slot carry, and the states a slot and a row block of the result go through: the slot
   free, its two transfers in flight, the row block not yet written, the row block written. -/
module

public import proofs.«01_k».proof.Proof.Own.KernelIdeal.Ring
public import Idealize.ShloMosaic.Lib.VecWindow
public import Idealize.ShloMosaic.Lib.WholeRead
public import Idealize.ShloMosaic.Lib.ValueLayout

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ (Pipeline.UD sig nD τ) ℕ

/-! ## The values carried -/

/-- Columns 0..896 of a stored block. -/
def cutA (w : Vec F S1x2048x1000 .f32) : Vec F S2048x896 .f32 := fun y =>
  w (ix3 (n0 := 1) (n1 := 2048) (n2 := 1000) ⟨0, by decide⟩ ⟨(y 0).val, (y 0).isLt⟩ ⟨(y 1).val, lt_trans (show (y 1).val < 896 from (y 1).isLt) (by decide)⟩)
/-- Columns 896..1000 of a stored block. -/
def cutB (w : Vec F S1x2048x1000 .f32) : Vec F S2048x104 .f32 := fun y =>
  w (ix3 (n0 := 1) (n1 := 2048) (n2 := 1000) ⟨0, by decide⟩ ⟨(y 0).val, (y 0).isLt⟩ ⟨896 + (y 1).val, by have : (y 1).val < 104 := (y 1).isLt; omega⟩)

/-- A tile read is the slot read at the tile's columns. -/
theorem tileA_read (g : Fin 2) (f : (slot g).view.ty.Contents (Elt F)) :
    (tileA g).view.read (Elt F) f = cutA ((slot g).view.read (Elt F) f) := by
  funext y
  obtain ⟨y0, y1, rfl⟩ : ∃ (y0 : Fin 2048) (y1 : Fin 896), y = ix2 y0 y1 := ⟨y 0, y 1, eq_ix2 (n0 := 2048) (n1 := 896) y⟩
  refine (congrArg (fun z => f ((Rect.unit (s := S2x2048x1000) ![g.val, 0, 0] S1x2048x896.size (inb_tileA g)).emb z))
    (reshapeEquiv_ix2_1ab (by decide +kernel) y0 y1)).trans ?_
  refine congrArg f ?_
  funext a
  refine Fin.ext ?_
  fin_cases a
  · rfl
  · rfl
  · rfl
/-- The second tile likewise. -/
theorem tileB_read (g : Fin 2) (f : (slot g).view.ty.Contents (Elt F)) :
    (tileB g).view.read (Elt F) f = cutB ((slot g).view.read (Elt F) f) := by
  funext y
  obtain ⟨y0, y1, rfl⟩ : ∃ (y0 : Fin 2048) (y1 : Fin 104), y = ix2 y0 y1 := ⟨y 0, y 1, eq_ix2 (n0 := 2048) (n1 := 104) y⟩
  refine (congrArg (fun z => f ((Rect.unit (s := S2x2048x1000) ![g.val, 0, 896] S1x2048x104.size (inb_tileB g)).emb z))
    (reshapeEquiv_ix2_1ab (by decide +kernel) y0 y1)).trans ?_
  refine congrArg f ?_
  funext a
  refine Fin.ext ?_
  fin_cases a
  · rfl
  · rfl
  · show 896 + 1 * y1.val = 0 + 1 * (896 + y1.val)
    omega
/-- After the body's store the slot reads what was stored. -/
theorem slot_stored (t : Fin grid0.N) (e : (scr.access (Rect.unit (s := S2x2048x1000) (k0_off7 (grid0.coords t)) S1x2048x1000.size (k0_off7_inb (grid0.coords t)))).ty.Contents (Elt F))
    (w : Vec F S1x2048x1000 .f32) :
    (slot (Ring.sl 2 t.val)).view.read (Elt F) (View.write (Elt F) (scr.access (Rect.unit (s := S2x2048x1000) (k0_off7 (grid0.coords t)) S1x2048x1000.size (k0_off7_inb (grid0.coords t)))) e w Finset.univ) = w :=
  Memref.read_slice_write scr (k0_off7_inb (grid0.coords t)) (off7_eq t) (inb_slot _) e w

/-- A load of a whole staging memref's own sizes reads its contents. -/
theorem load_whole {κ : Kind} {sp : Space} {s : Shape} {e : EltTy} (M : Memref sig κ sp s e) (h : M.IsWhole) (x : s.Idx → Elt F e)
    {off : Fin s.rank → ℕ} (inb : ∀ a, off a + s.size a ≤ s.size a) :
    View.readAt (Elt F) M.view (Rect.unit off s.size inb).toLoadRect (h.unread x) = x := by
  rw [View.readAt_full, h.read_unread]

/-! ## The states of a slot and of a row block -/

section States
variable (c : Dev nD)
/-- Slot `g`'s two transfers in flight to row block `u`: each will deliver its piece, reading the stored block `w` at
    its columns, and give its tile back. -/
abbrev flying (w : Vec F S1x2048x1000 .f32) (g : Fin 2) (u : Fin 8) : sProp 𝕄 :=
  iprop(∃ fA eA fB eB, ⌜(pieceA u).view.read (Elt F) fA = cutA w ∧ (pieceB u).view.read (Elt F) fB = cutB w⌝
    ∗ Transfers.Flight countersEmb (c : Thread nD τ) (cellR g 0) default ((pieceA u).view.amount (cellR g 0)) iprop(held c (pieceA u) fA ∗ held c (tileA g) eA)
    ∗ Transfers.Flight countersEmb (c : Thread nD τ) (cellR g 1) default ((pieceB u).view.amount (cellR g 1)) iprop(held c (pieceB u) fB ∗ held c (tileB g) eB))
/-- Slot `g` free: its cells at zero and the slot held at anything. -/
abbrev idle (g : Fin 2) : sProp 𝕄 :=
  iprop(semVal ((c : Thread nD τ), cellR g 0) 0 ∗ semVal ((c : Thread nD τ), cellR g 1) 0 ∗ ∃ e, held (F := F) c (slot g) e)
/-- Row block `u` not yet written: held at anything. -/
abbrev blank (u : Fin 8) : sProp 𝕄 := iprop((∃ f, held (F := F) c (pieceA u) f) ∗ ∃ f, held (F := F) c (pieceB u) f)
/-- Row block `u` written with `w`. -/
abbrev filled (w : Vec F S1x2048x1000 .f32) (u : Fin 8) : sProp 𝕄 :=
  iprop(∃ fA fB, ⌜(pieceA u).view.read (Elt F) fA = cutA w ∧ (pieceB u).view.read (Elt F) fB = cutB w⌝ ∗ held c (pieceA u) fA ∗ held c (pieceB u) fB)
end States

end Cert.KernelIdeal.Own

end
-- ==== Proof.Own.KernelIdeal.Ends.lean ====
/- The transfer ring between the points: what it holds before point `k`, how it is made from the scratch, the four cells
   and the result before the first point, and what it gives back after the last: the result at the blocks stored. -/
module

public import proofs.«01_k».proof.Proof.Own.KernelIdeal.Flight

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ (Pipeline.UD sig nD τ) ℕ

/-! ## The result's contents -/

/-- The result made of the eight stored blocks `w`. -/
def stack (w : Fin 8 → Vec F S1x2048x1000 .f32) : S16384x1000.Idx → Elt F .f32 := fun i =>
  w ⟨(i 0).val / 2048, by have : (i 0).val < 16384 := (i 0).isLt; omega⟩
    (ix3 (n0 := 1) (n1 := 2048) (n2 := 1000) ⟨0, by decide⟩ ⟨(i 0).val % 2048, by omega⟩ ⟨(i 1).val, (i 1).isLt⟩)

/-- The stack at row `2048 u + y`, column `x` is block `u` at `(y, x)`. -/
theorem stack_at (w : Fin 8 → Vec F S1x2048x1000 .f32) (u : Fin 8) (i : S16384x1000.Idx) (y : Fin 2048) (x : Fin 1000)
    (h0 : (i 0).val = 2048 * u.val + y.val) (h1 : (i 1).val = x.val) :
    stack w i = w u (ix3 (n0 := 1) ⟨0, by decide⟩ y x) := by
  have e0 : (⟨(i 0).val / 2048, by have : (i 0).val < 16384 := (i 0).isLt; omega⟩ : Fin 8) = u := Fin.ext (by have := y.isLt; show (i 0).val / 2048 = u.val; omega)
  have e1 : (⟨(i 0).val % 2048, by omega⟩ : Fin 2048) = y := Fin.ext (by have := y.isLt; show (i 0).val % 2048 = y.val; omega)
  have e2 : (⟨(i 1).val, (i 1).isLt⟩ : Fin 1000) = x := Fin.ext h1
  show w _ (ix3 _ _ _) = _
  rw [e0]
  exact congrArg (w u) (congrArg₂ (ix3 (n0 := 1) ⟨0, by decide⟩) e1 e2)

/-- What a first piece must read to be the stack there. -/
theorem pieceA_eq (w : Fin 8 → Vec F S1x2048x1000 .f32) (u : Fin 8) (f : (pieceA u).view.ty.Contents (Elt F))
    (h : (pieceA u).view.read (Elt F) f = cutA (w u)) : ∀ i ∈ pieceAS u, f i = stack w i := by
  intro i hi
  obtain ⟨y, rfl⟩ : ∃ y, (Rect.unit (s := S16384x1000) ![2048 * u.val, 0] S2048x896.size (inb_pieceA u)).emb y = i := by
    have hi' : i ∈ (pieceA u).view.set := by rw [pieceA_set]; exact hi
    unfold View.set at hi'
    obtain ⟨y, -, e⟩ := Finset.mem_map.mp hi'; exact ⟨y, e⟩
  refine (congrFun h y).trans (stack_at w u _ ⟨(y 0).val, (y 0).isLt⟩ ⟨(y 1).val, lt_trans (show (y 1).val < 896 from (y 1).isLt) (by decide)⟩ ?_ ?_).symm
  · show 2048 * u.val + 1 * (y 0).val = 2048 * u.val + (y 0).val; omega
  · show 0 + 1 * (y 1).val = (y 1).val; omega
/-- And a second piece. -/
theorem pieceB_eq (w : Fin 8 → Vec F S1x2048x1000 .f32) (u : Fin 8) (f : (pieceB u).view.ty.Contents (Elt F))
    (h : (pieceB u).view.read (Elt F) f = cutB (w u)) : ∀ i ∈ pieceBS u, f i = stack w i := by
  intro i hi
  obtain ⟨y, rfl⟩ : ∃ y, (Rect.unit (s := S16384x1000) ![2048 * u.val, 896] S2048x104.size (inb_pieceB u)).emb y = i := by
    have hi' : i ∈ (pieceB u).view.set := by rw [pieceB_set]; exact hi
    unfold View.set at hi'
    obtain ⟨y, -, e⟩ := Finset.mem_map.mp hi'; exact ⟨y, e⟩
  refine (congrFun h y).trans (stack_at w u _ ⟨(y 0).val, (y 0).isLt⟩ ⟨896 + (y 1).val, by have : (y 1).val < 104 := (y 1).isLt; omega⟩ ?_ ?_).symm
  · show 2048 * u.val + 1 * (y 0).val = 2048 * u.val + (y 0).val; omega
  · show 896 + 1 * (y 1).val = 896 + (y 1).val; omega

/-! ## The ring -/

section Ring
variable (c : Dev nD) (w : Fin 8 → Vec F S1x2048x1000 .f32)

/-- The ring before point `k`, when point `u` stores block `w u`. -/
abbrev ringAt (k : ℕ) : sProp 𝕄 :=
  Ring.AtBΦ (NB := 8) 2 (idle (F := F) c) (fun g u => flying c (w u) g u) (blank (F := F) c) (fun u => filled c (w u) u) k

/-- The four cells at zero. -/
abbrev cells : sProp 𝕄 :=
  iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)

/-- The scratch whole is its two slots, -/
theorem slots_in (f : Buf (Elt F) ((c : Thread nD τ).loc cc0_scratch0)) :
    (((c : Thread nD τ).loc cc0_scratch0) ↦{fullShare} f : sProp 𝕄) ⊢ iprop(held (F := F) c (slot 0) f ∗ held (F := F) c (slot 1) f) := by
  have h : (((c : Thread nD τ).loc cc0_scratch0) ↦{fullShare} f : sProp 𝕄)
      ⊢ iprop((((c : Thread nD τ).loc cc0_scratch0) ↦[slotS 0]{fullShare} f) ∗ ((c : Thread nD τ).loc cc0_scratch0) ↦[slotS 1]{fullShare} f) := by
    rw [← Ring.bigSep_fin2 (fun g => (((c : Thread nD τ).loc cc0_scratch0) ↦[slotS g]{fullShare} f : sProp 𝕄))]
    refine Entails.of_eq (Eq.trans (b := (((c : Thread nD τ).loc cc0_scratch0) ↦[Finset.univ.biUnion slotS]{fullShare} f : sProp 𝕄)) ?_ ?_)
    · rw [slots_union]
    · exact pointsTo_biUnion (ℓ := (c : Thread nD τ).loc cc0_scratch0) Finset.univ slotS (fun g _ g' _ e => slots_disjoint g g' e)
  iintro H
  ihave H' := h $$ H
  icases H' with ⟨HA, HB⟩
  isplitl [HA]
  · iapply (Entails.of_eq (held_slot c 0 f).symm); iexact HA
  · iapply (Entails.of_eq (held_slot c 1 f).symm); iexact HB
/-- and two slots at contents of their own are the scratch at some contents. -/
theorem slots_out (f f' : Buf (Elt F) ((c : Thread nD τ).loc cc0_scratch0)) :
    (iprop(held (F := F) c (slot 0) f ∗ held (F := F) c (slot 1) f') : sProp 𝕄) ⊢ iprop(∃ g, ((c : Thread nD τ).loc cc0_scratch0) ↦{fullShare} g) := by
  have hu : slotS 0 ∪ slotS 1 = Finset.univ := by
    rw [← slots_union]
    show slotS 0 ∪ slotS 1 = (Finset.univ : Finset (Fin 2)).biUnion slotS
    ext y; simp only [Finset.mem_union, Finset.mem_biUnion, Finset.mem_univ, true_and, Fin.exists_fin_two]
  have h : (iprop((((c : Thread nD τ).loc cc0_scratch0) ↦[slotS 0]{fullShare} f) ∗ ((c : Thread nD τ).loc cc0_scratch0) ↦[slotS 1]{fullShare} f') : sProp 𝕄)
      ⊢ (((c : Thread nD τ).loc cc0_scratch0) ↦{fullShare} (slotS 1).piecewise f' f) := by
    show _ ⊢ (((c : Thread nD τ).loc cc0_scratch0) ↦[Finset.univ]{fullShare} (slotS 1).piecewise f' f)
    rw [← hu]
    exact pointsTo_join (slots_disjoint 0 1 (by decide))
  iintro ⟨HA, HB⟩
  iexists ((slotS 1).piecewise f' f)
  iapply h
  isplitl [HA]
  · iapply (Entails.of_eq (held_slot c 0 f)); iexact HA
  · iapply (Entails.of_eq (held_slot c 1 f')); iexact HB

/-- The result whole is its row blocks, each still to be written, -/
theorem blocks_in (f : Buf (Elt F) ((c : Thread nD τ).loc main_v3_0)) :
    (((c : Thread nD τ).loc main_v3_0) ↦{fullShare} f : sProp 𝕄) ⊢ bigSep Finset.univ (blank (F := F) c) := by
  have h : (((c : Thread nD τ).loc main_v3_0) ↦{fullShare} f : sProp 𝕄)
      = bigSep Finset.univ fun u => iprop((((c : Thread nD τ).loc main_v3_0) ↦[pieceAS u]{fullShare} f) ∗ (((c : Thread nD τ).loc main_v3_0) ↦[pieceBS u]{fullShare} f)) := by
    refine Eq.trans (b := (((c : Thread nD τ).loc main_v3_0) ↦[Finset.univ.biUnion pset]{fullShare} f : sProp 𝕄)) ?_ ?_
    · rw [pieces_union]
    refine (pointsTo_biUnion (ℓ := (c : Thread nD τ).loc main_v3_0) Finset.univ pset (fun i _ i' _ e => pieces_disjoint i i' e)).trans ?_
    rw [BI.bigSep_univ_prod]
    refine BI.bigSep_congr fun u _ => ?_
    rw [Ring.bigSep_fin2, pset_zero, pset_one]
  have key : ∀ u : Fin 8, (iprop((((c : Thread nD τ).loc main_v3_0) ↦[pieceAS u]{fullShare} f) ∗ (((c : Thread nD τ).loc main_v3_0) ↦[pieceBS u]{fullShare} f)) : sProp 𝕄) ⊢ blank c u := fun u => by
    iintro ⟨HA, HB⟩
    isplitl [HA]
    · iexists f; iapply (Entails.of_eq (held_pieceA c u f).symm); iexact HA
    · iexists f; iapply (Entails.of_eq (held_pieceB c u f).symm); iexact HB
  rw [h]
  exact BI.bigSep_mono fun u _ => key u
/-- and the row blocks, each written, are the result at the stack of what was stored. -/
theorem blocks_out :
    bigSep Finset.univ (fun u => filled c (w u) u) ⊢ (((c : Thread nD τ).loc main_v3_0) ↦{fullShare} (stack w : Buf (Elt F) ((c : Thread nD τ).loc main_v3_0)) : sProp 𝕄) := by
  have h : (((c : Thread nD τ).loc main_v3_0) ↦{fullShare} (stack w : Buf (Elt F) ((c : Thread nD τ).loc main_v3_0)) : sProp 𝕄)
      = bigSep Finset.univ fun u => iprop((((c : Thread nD τ).loc main_v3_0) ↦[pieceAS u]{fullShare} (stack w : Buf (Elt F) ((c : Thread nD τ).loc main_v3_0))) ∗ (((c : Thread nD τ).loc main_v3_0) ↦[pieceBS u]{fullShare} (stack w : Buf (Elt F) ((c : Thread nD τ).loc main_v3_0)))) := by
    refine Eq.trans (b := (((c : Thread nD τ).loc main_v3_0) ↦[Finset.univ.biUnion pset]{fullShare} (stack w : Buf (Elt F) ((c : Thread nD τ).loc main_v3_0)) : sProp 𝕄)) ?_ ?_
    · rw [pieces_union]
    refine (pointsTo_biUnion (ℓ := (c : Thread nD τ).loc main_v3_0) Finset.univ pset (fun i _ i' _ e => pieces_disjoint i i' e)).trans ?_
    rw [BI.bigSep_univ_prod]
    refine BI.bigSep_congr fun u _ => ?_
    rw [Ring.bigSep_fin2, pset_zero, pset_one]
  have key : ∀ u : Fin 8, filled c (w u) u ⊢ (iprop((((c : Thread nD τ).loc main_v3_0) ↦[pieceAS u]{fullShare} (stack w : Buf (Elt F) ((c : Thread nD τ).loc main_v3_0))) ∗ (((c : Thread nD τ).loc main_v3_0) ↦[pieceBS u]{fullShare} (stack w : Buf (Elt F) ((c : Thread nD τ).loc main_v3_0)))) : sProp 𝕄) := fun u => by
    iintro ⟨%fA, %fB, %hf, HA, HB⟩
    isplitl [HA]
    · iapply (Entails.of_eq ((held_pieceA c u fA).trans (pointsTo_congr (pieceA_eq w u fA hf.1)))); iexact HA
    · iapply (Entails.of_eq ((held_pieceB c u fB).trans (pointsTo_congr (pieceB_eq w u fB hf.2)))); iexact HB
  rw [h]
  exact BI.bigSep_mono fun u _ => key u

/-- The ring before the first point, out of the scratch, the cells and the result. -/
theorem ring_in (f : Buf (Elt F) ((c : Thread nD τ).loc main_v3_0)) :
    (iprop((∃ e : Buf (Elt F) ((c : Thread nD τ).loc cc0_scratch0), ((c : Thread nD τ).loc cc0_scratch0) ↦{fullShare} e) ∗ cells c ∗ ((c : Thread nD τ).loc main_v3_0) ↦{fullShare} f) : sProp 𝕄)
      ⊢ ringAt c w 0 := by
  unfold ringAt; rw [Ring.AtBΦ_lt _ _ _ _ _ 0 (by decide), Ring.AtB_zero]; unfold Ring.AtB₀
  rw [Ring.bigSep_fin2]
  unfold idle cells
  rw [cellR_00, cellR_01, cellR_10, cellR_11]
  iintro ⟨⟨%e, HS⟩, ⟨H8, H9, H10, H11⟩, HO⟩
  ihave HS' := (slots_in c e) $$ HS
  icases HS' with ⟨HS0, HS1⟩
  isplitl [HO]; · iapply (blocks_in c f); iexact HO
  isplitl [H8 H9 HS0]
  · isplitl [H8]; · iexact H8
    isplitl [H9]; · iexact H9
    iexists e; iexact HS0
  · isplitl [H10]; · iexact H10
    isplitl [H11]; · iexact H11
    iexists e; iexact HS1

/-- The ring after the last point: the scratch at some contents, the cells at zero, the result at the stack. -/
theorem ring_out :
    ringAt c w 8 ⊢ (iprop((∃ e : Buf (Elt F) ((c : Thread nD τ).loc cc0_scratch0), ((c : Thread nD τ).loc cc0_scratch0) ↦{fullShare} e) ∗ cells c
      ∗ ((c : Thread nD τ).loc main_v3_0) ↦{fullShare} (stack w : Buf (Elt F) ((c : Thread nD τ).loc main_v3_0))) : sProp 𝕄) := by
  unfold ringAt; rw [Ring.AtBΦ_ge _ _ _ _ _ 8 (by decide)]; unfold Ring.AtBEnd
  rw [Ring.bigSep_fin2]
  unfold idle cells
  rw [cellR_00, cellR_01, cellR_10, cellR_11]
  iintro ⟨HO, ⟨H8, H9, ⟨%e, HS0⟩⟩, ⟨H10, H11, ⟨%e', HS1⟩⟩⟩
  isplitl [HS0 HS1]
  · iapply (slots_out c e e')
    isplitl [HS0]
    · iexact HS0
    · iexact HS1
  isplitl [H8 H9 H10 H11]
  · isplitl [H8]; · iexact H8
    isplitl [H9]; · iexact H9
    isplitl [H10]; · iexact H10
    iexact H11
  iapply (blocks_out c w); iexact HO
end Ring

end Cert.KernelIdeal.Own

end
-- ==== Proof.Own.KernelIdeal.RunA.lean ====
/- The body at the first two points: nothing to wait for. -/
module

public import proofs.«01_k».proof.Proof.Own.KernelIdeal.Flight

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- At the first two points: the results are stored, and the slot's two transfers are left in flight. -/
theorem runA (c : Dev nD) (t : Fin grid0.N) (arg1 : Memref sig .tc .vmem S2048x16 .f32) (harg1 : arg1.IsWhole) (arg2 : Memref sig .tc .vmem S1000x16 .f32) (harg2 : arg2.IsWhole) (arg3 : Memref sig .tc .vmem S1x1000 .f32) (harg3 : arg3.IsWhole) (arg5 : Memref sig .tc .vmem S1x1x2048 .i32) (harg5 : arg5.IsWhole) (arg6 : Memref sig .tc .vmem S1x1x2048 .f32) (harg6 : arg6.IsWhole)
    (hc0 : ¬k0_cond1 (grid0.coords t) = 1#1) (hc1 : ¬k0_cond2 (grid0.coords t) = 1#1)
    (x0 : Vec F S2048x16 .f32) (x1 : Vec F S1000x16 .f32) (x2 : Vec F S1x1000 .f32) (W : Waits sig Unit) (K : PUnit → sProp 𝕄)
    (e : Cont (F := F) c (slot (Ring.sl 2 t.val)))
    (fA : Cont (F := F) c (pieceA (Ring.bk 8 t.val))) (fB : Cont (F := F) c (pieceB (Ring.bk 8 t.val))) :
    iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d)
        ∗ semVal ((c : Thread nD τ), cellR (Ring.sl 2 t.val) 0) 0 ∗ semVal ((c : Thread nD τ), cellR (Ring.sl 2 t.val) 1) 0 ∗ held c (slot (Ring.sl 2 t.val)) e ∗ held c (pieceA (Ring.bk 8 t.val)) fA ∗ held c (pieceB (Ring.bk 8 t.val)) fB
        ∗ owes (c : Thread nD τ) 0 W
        ∗ (∀ W', (owns (c : Thread nD τ) arg1 fullShare x0 ∗ owns (c : Thread nD τ) arg2 fullShare x1 ∗ owns (c : Thread nD τ) arg3 fullShare x2 ∗ owns (c : Thread nD τ) arg5 fullShare (k0_pay3 x0 x1 x2) ∗ owns (c : Thread nD τ) arg6 fullShare (k0_pay4 x0 x1 x2)
            ∗ flying c (k0_pay2 x0 x1 x2) (Ring.sl 2 t.val) (Ring.bk 8 t.val) ∗ owes (c : Thread nD τ) 0 W') -∗ K ⟨⟩))
      ⊢ wp frame (wpE (defs₀ (F := F)) Variants.none c none) Set.univ (cc0__body (grid0.coords t) arg1 harg1 arg2 harg2 arg3 harg3 (Memref.whole main_v3_0) (Memref.isWhole_whole _) arg5 harg5 arg6 harg6 scr (Memref.isWhole_whole _) cc0_scratch1) K := by
  haveI : Fact (¬k0_cond1 (grid0.coords t) = 1#1) := ⟨hc0⟩
  haveI : Fact (¬k0_cond2 (grid0.coords t) = 1#1) := ⟨hc1⟩
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, HqA, HqB, HS, HpA, HpB, HW, HK⟩
  obtain rfl := harg1.eq_unread hf0; obtain rfl := harg2.eq_unread hf1; obtain rfl := harg3.eq_unread hf2
  sl_exec (disch := first | sl_exact hc0 | sl_exact hc1)
  ihave HS2 := (slot_split c (Ring.sl 2 t.val) (runA.sl.HS_w1 c t arg1 harg1 arg2 harg2 arg3 harg3 x0 x1 x2 e)) $$ HS
  icases HS2 with ⟨HtA, HtB⟩
  sl_exec (disch := first | sl_exact hc0 | sl_exact hc1)
  sl_step
  have hst : (slot (Ring.sl 2 t.val)).view.read (Elt F) (runA.sl.HS_w1 c t arg1 harg1 arg2 harg2 arg3 harg3 x0 x1 x2 e) = k0_pay2 x0 x1 x2 := by
    unfold runA.sl.HS_w1
    rw [load_whole arg1 harg1 x0, load_whole arg2 harg2 x1, load_whole arg3 harg3 x2]
    exact slot_stored t _ _
  iapply HK
  isplitl [H0]; · iexists harg1.unread x0; isplitr; · ipureintro; exact harg1.read_unread x0
                  iexact H0
  isplitl [H1]; · iexists harg2.unread x1; isplitr; · ipureintro; exact harg2.read_unread x1
                  iexact H1
  isplitl [H2]; · iexists harg3.unread x2; isplitr; · ipureintro; exact harg3.read_unread x2
                  iexact H2
  isplitl [H3]
  · iexists _; isplitr
    rotate_left
    · iexact H3
    · ipureintro
      rw [View.read_writes_full, load_whole arg1 harg1 x0, load_whole arg2 harg2 x1, load_whole arg3 harg3 x2]
  isplitl [H4]
  · iexists _; isplitr
    rotate_left
    · iexact H4
    · ipureintro
      rw [View.read_writes_full, load_whole arg1 harg1 x0, load_whole arg2 harg2 x1, load_whole arg3 harg3 x2]
  isplitl [HqA HqB]
  · iexists _, _, _, _
    isplitr
    rotate_left
    · isplitl [HqA]
      · iexact HqA
      · iexact HqB
    · ipureintro
      refine ⟨?_, ?_⟩
      · rw [View.read_writes_whole]; exact (tileA_read _ _).trans (congrArg cutA hst)
      · rw [View.read_writes_whole]; exact (tileB_read _ _).trans (congrArg cutB hst)
  · iexact HW

end Cert.KernelIdeal.Own

end
-- ==== Proof.Own.KernelIdeal.RunB.lean ====
/- The body from the third point on: the slot's transfers of two points before are waited for first. -/
module

public import proofs.«01_k».proof.Proof.Own.KernelIdeal.Flight

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- From the third point on, before the last: the slot's two transfers of two points before are waited for and deliver their row block; the results are stored, and the slot's two transfers are left in flight. -/
theorem runB (c : Dev nD) (t : Fin grid0.N) (arg1 : Memref sig .tc .vmem S2048x16 .f32) (harg1 : arg1.IsWhole) (arg2 : Memref sig .tc .vmem S1000x16 .f32) (harg2 : arg2.IsWhole) (arg3 : Memref sig .tc .vmem S1x1000 .f32) (harg3 : arg3.IsWhole) (arg5 : Memref sig .tc .vmem S1x1x2048 .i32) (harg5 : arg5.IsWhole) (arg6 : Memref sig .tc .vmem S1x1x2048 .f32) (harg6 : arg6.IsWhole)
    (hc0 : k0_cond1 (grid0.coords t) = 1#1) (hc1 : ¬k0_cond2 (grid0.coords t) = 1#1)
    (x0 : Vec F S2048x16 .f32) (x1 : Vec F S1000x16 .f32) (x2 : Vec F S1x1000 .f32) (W : Waits sig Unit) (K : PUnit → sProp 𝕄)
    (gA : Cont (F := F) c (pieceA (Ring.bk 8 (t.val - 2)))) (gB : Cont (F := F) c (pieceB (Ring.bk 8 (t.val - 2)))) (eA : Cont (F := F) c (tileA (Ring.sl 2 t.val))) (eB : Cont (F := F) c (tileB (Ring.sl 2 t.val)))
    (fA : Cont (F := F) c (pieceA (Ring.bk 8 t.val))) (fB : Cont (F := F) c (pieceB (Ring.bk 8 t.val))) :
    iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d)
        ∗ Transfers.Flight countersEmb (c : Thread nD τ) (cellR (Ring.sl 2 t.val) 0) default ((pieceA (Ring.bk 8 (t.val - 2))).view.amount (cellR (Ring.sl 2 t.val) 0)) iprop(held c (pieceA (Ring.bk 8 (t.val - 2))) gA ∗ held c (tileA (Ring.sl 2 t.val)) eA) ∗ Transfers.Flight countersEmb (c : Thread nD τ) (cellR (Ring.sl 2 t.val) 1) default ((pieceB (Ring.bk 8 (t.val - 2))).view.amount (cellR (Ring.sl 2 t.val) 1)) iprop(held c (pieceB (Ring.bk 8 (t.val - 2))) gB ∗ held c (tileB (Ring.sl 2 t.val)) eB) ∗ held c (pieceA (Ring.bk 8 t.val)) fA ∗ held c (pieceB (Ring.bk 8 t.val)) fB
        ∗ owes (c : Thread nD τ) 0 W
        ∗ (∀ W', (owns (c : Thread nD τ) arg1 fullShare x0 ∗ owns (c : Thread nD τ) arg2 fullShare x1 ∗ owns (c : Thread nD τ) arg3 fullShare x2 ∗ owns (c : Thread nD τ) arg5 fullShare (k0_pay3 x0 x1 x2) ∗ owns (c : Thread nD τ) arg6 fullShare (k0_pay4 x0 x1 x2)
            ∗ flying c (k0_pay2 x0 x1 x2) (Ring.sl 2 t.val) (Ring.bk 8 t.val) ∗ held c (pieceA (Ring.bk 8 (t.val - 2))) gA ∗ held c (pieceB (Ring.bk 8 (t.val - 2))) gB ∗ owes (c : Thread nD τ) 0 W') -∗ K ⟨⟩))
      ⊢ wp frame (wpE (defs₀ (F := F)) Variants.none c none) Set.univ (cc0__body (grid0.coords t) arg1 harg1 arg2 harg2 arg3 harg3 (Memref.whole main_v3_0) (Memref.isWhole_whole _) arg5 harg5 arg6 harg6 scr (Memref.isWhole_whole _) cc0_scratch1) K := by
  haveI : Fact (k0_cond1 (grid0.coords t) = 1#1) := ⟨hc0⟩
  haveI : Fact (¬k0_cond2 (grid0.coords t) = 1#1) := ⟨hc1⟩
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, HqA, HqB, HpA, HpB, HW, HK⟩
  obtain rfl := harg1.eq_unread hf0; obtain rfl := harg2.eq_unread hf1; obtain rfl := harg3.eq_unread hf2
  sl_exec (disch := first | sl_exact hc0 | sl_exact hc1)
  ihave HS := (slot_join c (Ring.sl 2 t.val) eA eB) $$ [HqA_src HqB_src]
  · isplitl [HqA_src]
    · iexact HqA_src
    · iexact HqB_src
  icases HS with ⟨%e, HS⟩
  sl_exec (disch := first | sl_exact hc0 | sl_exact hc1)
  ihave HS2 := (slot_split c (Ring.sl 2 t.val) (runB.sl.HS_w1 c t arg1 harg1 arg2 harg2 arg3 harg3 x0 x1 x2 e)) $$ HS
  icases HS2 with ⟨HtA, HtB⟩
  sl_exec (disch := first | sl_exact hc0 | sl_exact hc1)
  sl_step
  have hst : (slot (Ring.sl 2 t.val)).view.read (Elt F) (runB.sl.HS_w1 c t arg1 harg1 arg2 harg2 arg3 harg3 x0 x1 x2 e) = k0_pay2 x0 x1 x2 := by
    unfold runB.sl.HS_w1
    rw [load_whole arg1 harg1 x0, load_whole arg2 harg2 x1, load_whole arg3 harg3 x2]
    exact slot_stored t _ _
  iapply HK
  isplitl [H0]; · iexists harg1.unread x0; isplitr; · ipureintro; exact harg1.read_unread x0
                  iexact H0
  isplitl [H1]; · iexists harg2.unread x1; isplitr; · ipureintro; exact harg2.read_unread x1
                  iexact H1
  isplitl [H2]; · iexists harg3.unread x2; isplitr; · ipureintro; exact harg3.read_unread x2
                  iexact H2
  isplitl [H3]
  · iexists _; isplitr
    rotate_left
    · iexact H3
    · ipureintro
      rw [View.read_writes_full, load_whole arg1 harg1 x0, load_whole arg2 harg2 x1, load_whole arg3 harg3 x2]
  isplitl [H4]
  · iexists _; isplitr
    rotate_left
    · iexact H4
    · ipureintro
      rw [View.read_writes_full, load_whole arg1 harg1 x0, load_whole arg2 harg2 x1, load_whole arg3 harg3 x2]
  isplitl [HqA HqB]
  · iexists _, _, _, _
    isplitr
    rotate_left
    · isplitl [HqA]
      · iexact HqA
      · iexact HqB
    · ipureintro
      refine ⟨?_, ?_⟩
      · rw [View.read_writes_whole]; exact (tileA_read _ _).trans (congrArg cutA hst)
      · rw [View.read_writes_whole]; exact (tileB_read _ _).trans (congrArg cutB hst)
  isplitl [HqA_dst]; · iexact HqA_dst
  isplitl [HqB_dst]; · iexact HqB_dst
  iexact HW

end Cert.KernelIdeal.Own

end
-- ==== Proof.Own.KernelIdeal.RunC.lean ====
/- The body at the last point: every transfer is waited for. -/
module

public import proofs.«01_k».proof.Proof.Own.KernelIdeal.Flight

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- At the last point: the slot's transfers of two points before are waited for, the results are stored and sent, and both slots' transfers are waited for, so that the last three row blocks are written and both slots are free. -/
theorem runC (c : Dev nD) (t : Fin grid0.N) (arg1 : Memref sig .tc .vmem S2048x16 .f32) (harg1 : arg1.IsWhole) (arg2 : Memref sig .tc .vmem S1000x16 .f32) (harg2 : arg2.IsWhole) (arg3 : Memref sig .tc .vmem S1x1000 .f32) (harg3 : arg3.IsWhole) (arg5 : Memref sig .tc .vmem S1x1x2048 .i32) (harg5 : arg5.IsWhole) (arg6 : Memref sig .tc .vmem S1x1x2048 .f32) (harg6 : arg6.IsWhole)
    (hc0 : k0_cond1 (grid0.coords t) = 1#1) (hc1 : k0_cond2 (grid0.coords t) = 1#1)
    (x0 : Vec F S2048x16 .f32) (x1 : Vec F S1000x16 .f32) (x2 : Vec F S1x1000 .f32) (W : Waits sig Unit) (K : PUnit → sProp 𝕄)
    (gA : Cont (F := F) c (pieceA (Ring.bk 8 (t.val - 2)))) (gB : Cont (F := F) c (pieceB (Ring.bk 8 (t.val - 2)))) (eA : Cont (F := F) c (tileA (Ring.sl 2 t.val))) (eB : Cont (F := F) c (tileB (Ring.sl 2 t.val)))
    (hA : Cont (F := F) c (pieceA (Ring.bk 8 (t.val - 1)))) (hB : Cont (F := F) c (pieceB (Ring.bk 8 (t.val - 1)))) (hA' : Cont (F := F) c (tileA (Ring.sl 2 (t.val + 1)))) (hB' : Cont (F := F) c (tileB (Ring.sl 2 (t.val + 1))))
    (fA : Cont (F := F) c (pieceA (Ring.bk 8 t.val))) (fB : Cont (F := F) c (pieceB (Ring.bk 8 t.val))) :
    iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d)
        ∗ Transfers.Flight countersEmb (c : Thread nD τ) (cellR (Ring.sl 2 t.val) 0) default ((pieceA (Ring.bk 8 (t.val - 2))).view.amount (cellR (Ring.sl 2 t.val) 0)) iprop(held c (pieceA (Ring.bk 8 (t.val - 2))) gA ∗ held c (tileA (Ring.sl 2 t.val)) eA) ∗ Transfers.Flight countersEmb (c : Thread nD τ) (cellR (Ring.sl 2 t.val) 1) default ((pieceB (Ring.bk 8 (t.val - 2))).view.amount (cellR (Ring.sl 2 t.val) 1)) iprop(held c (pieceB (Ring.bk 8 (t.val - 2))) gB ∗ held c (tileB (Ring.sl 2 t.val)) eB) ∗ Transfers.Flight countersEmb (c : Thread nD τ) (cellR (Ring.sl 2 (t.val + 1)) 0) default ((pieceA (Ring.bk 8 (t.val - 1))).view.amount (cellR (Ring.sl 2 (t.val + 1)) 0)) iprop(held c (pieceA (Ring.bk 8 (t.val - 1))) hA ∗ held c (tileA (Ring.sl 2 (t.val + 1))) hA') ∗ Transfers.Flight countersEmb (c : Thread nD τ) (cellR (Ring.sl 2 (t.val + 1)) 1) default ((pieceB (Ring.bk 8 (t.val - 1))).view.amount (cellR (Ring.sl 2 (t.val + 1)) 1)) iprop(held c (pieceB (Ring.bk 8 (t.val - 1))) hB ∗ held c (tileB (Ring.sl 2 (t.val + 1))) hB') ∗ held c (pieceA (Ring.bk 8 t.val)) fA ∗ held c (pieceB (Ring.bk 8 t.val)) fB
        ∗ owes (c : Thread nD τ) 0 W
        ∗ (∀ W', (owns (c : Thread nD τ) arg1 fullShare x0 ∗ owns (c : Thread nD τ) arg2 fullShare x1 ∗ owns (c : Thread nD τ) arg3 fullShare x2 ∗ owns (c : Thread nD τ) arg5 fullShare (k0_pay3 x0 x1 x2) ∗ owns (c : Thread nD τ) arg6 fullShare (k0_pay4 x0 x1 x2)
            ∗ filled c (k0_pay2 x0 x1 x2) (Ring.bk 8 t.val) ∗ held c (pieceA (Ring.bk 8 (t.val - 2))) gA ∗ held c (pieceB (Ring.bk 8 (t.val - 2))) gB ∗ held c (pieceA (Ring.bk 8 (t.val - 1))) hA ∗ held c (pieceB (Ring.bk 8 (t.val - 1))) hB ∗ idle c (Ring.sl 2 t.val) ∗ idle c (Ring.sl 2 (t.val + 1)) ∗ owes (c : Thread nD τ) 0 W') -∗ K ⟨⟩))
      ⊢ wp frame (wpE (defs₀ (F := F)) Variants.none c none) Set.univ (cc0__body (grid0.coords t) arg1 harg1 arg2 harg2 arg3 harg3 (Memref.whole main_v3_0) (Memref.isWhole_whole _) arg5 harg5 arg6 harg6 scr (Memref.isWhole_whole _) cc0_scratch1) K := by
  haveI : Fact (k0_cond1 (grid0.coords t) = 1#1) := ⟨hc0⟩
  haveI : Fact (k0_cond2 (grid0.coords t) = 1#1) := ⟨hc1⟩
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, HqA, HqB, HrA, HrB, HpA, HpB, HW, HK⟩
  obtain rfl := harg1.eq_unread hf0; obtain rfl := harg2.eq_unread hf1; obtain rfl := harg3.eq_unread hf2
  sl_exec (disch := first | sl_exact hc0 | sl_exact hc1)
  ihave HS := (slot_join c (Ring.sl 2 t.val) eA eB) $$ [HqA_src HqB_src]
  · isplitl [HqA_src]
    · iexact HqA_src
    · iexact HqB_src
  icases HS with ⟨%e, HS⟩
  sl_exec (disch := first | sl_exact hc0 | sl_exact hc1)
  ihave HS2 := (slot_split c (Ring.sl 2 t.val) (runC.sl.HS_w1 c t arg1 harg1 arg2 harg2 arg3 harg3 x0 x1 x2 e)) $$ HS
  icases HS2 with ⟨HtA, HtB⟩
  sl_exec (disch := first | sl_exact hc0 | sl_exact hc1)
  sl_step
  have hst : (slot (Ring.sl 2 t.val)).view.read (Elt F) (runC.sl.HS_w1 c t arg1 harg1 arg2 harg2 arg3 harg3 x0 x1 x2 e) = k0_pay2 x0 x1 x2 := by
    unfold runC.sl.HS_w1
    rw [load_whole arg1 harg1 x0, load_whole arg2 harg2 x1, load_whole arg3 harg3 x2]
    exact slot_stored t _ _
  iapply HK
  isplitl [H0]; · iexists harg1.unread x0; isplitr; · ipureintro; exact harg1.read_unread x0
                  iexact H0
  isplitl [H1]; · iexists harg2.unread x1; isplitr; · ipureintro; exact harg2.read_unread x1
                  iexact H1
  isplitl [H2]; · iexists harg3.unread x2; isplitr; · ipureintro; exact harg3.read_unread x2
                  iexact H2
  isplitl [H3]
  · iexists _; isplitr
    rotate_left
    · iexact H3
    · ipureintro
      rw [View.read_writes_full, load_whole arg1 harg1 x0, load_whole arg2 harg2 x1, load_whole arg3 harg3 x2]
  isplitl [H4]
  · iexists _; isplitr
    rotate_left
    · iexact H4
    · ipureintro
      rw [View.read_writes_full, load_whole arg1 harg1 x0, load_whole arg2 harg2 x1, load_whole arg3 harg3 x2]
  isplitl [HpA HpB]
  · iexists _, _
    isplitr
    rotate_left
    · isplitl [HpA]
      · iexact HpA
      · iexact HpB
    · ipureintro
      refine ⟨?_, ?_⟩
      · rw [View.read_writes_whole]; exact (tileA_read _ _).trans (congrArg cutA hst)
      · rw [View.read_writes_whole]; exact (tileB_read _ _).trans (congrArg cutB hst)
  isplitl [HqA_dst]; · iexact HqA_dst
  isplitl [HqB_dst]; · iexact HqB_dst
  isplitl [HrA_dst]; · iexact HrA_dst
  isplitl [HrB_dst]; · iexact HrB_dst
  isplitl [HqA HqB HtA HtB]
  · isplitl [HqA]; · iexact HqA
    isplitl [HqB]; · iexact HqB
    iapply (slot_join c (Ring.sl 2 t.val) _ _)
    isplitl [HtA]
    · iexact HtA
    · iexact HtB
  isplitl [HrA HrB HrA_src HrB_src]
  · isplitl [HrA]; · iexact HrA
    isplitl [HrB]; · iexact HrB
    iapply (slot_join c (Ring.sl 2 (t.val + 1)) hA' hB')
    isplitl [HrA_src]
    · iexact HrA_src
    · iexact HrB_src
  iexact HW

end Cert.KernelIdeal.Own

end
-- ==== Proof.Own.KernelIdeal.Body.lean ====
/- The proof data of the region and the body's obligation at every point. -/
module

public import proofs.«01_k».proof.Proof.Own.KernelIdeal.Ends
public import proofs.«01_k».proof.Proof.Own.KernelIdeal.RunA
public import proofs.«01_k».proof.Proof.Own.KernelIdeal.RunB
public import proofs.«01_k».proof.Proof.Own.KernelIdeal.RunC

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! ## What each point computes -/

/-- The distances of point `t`'s rows, as stored. -/
def distAt (c : Dev nD) (t : Fin cfg0.N) : Vec F S1x2048x1000 .f32 := k0_pay2 (iblk m c 0 t) (iblk m c 1 t) (iblk m c 2 t)
/-- The nearest centroid of each of them. -/
def nearAt (c : Dev nD) (t : Fin cfg0.N) : Vec F S1x1x2048 .i32 := k0_pay3 (iblk m c 0 t) (iblk m c 1 t) (iblk m c 2 t)
/-- The least squared distance of each of them. -/
def leastAt (c : Dev nD) (t : Fin cfg0.N) : Vec F S1x1x2048 .f32 := k0_pay4 (iblk m c 0 t) (iblk m c 1 t) (iblk m c 2 t)
/-- The eight blocks stored, by row block. -/
def blocks (c : Dev nD) (u : Fin 8) : Vec F S1x2048x1000 .f32 := distAt m c (Fin.cast N_0.symm u)

theorem blocks_bk (c : Dev nD) (t : Fin cfg0.N) : blocks m c (Ring.bk 8 t.val) = distAt m c t := by
  unfold blocks
  refine congrArg (distAt m c) (Fin.ext ?_)
  show (Ring.bk 8 t.val).val = t.val
  exact Ring.bk_val (lt_of_lt_of_eq t.isLt (show cfg0.N = 8 from N_0))

/-! ## The proof data -/

/-- The arrays as the region finds them; each input's buffer left at its block, each output's at what the point computes;
    the ring before each point; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => nearAt m c t
    | ⟨4, _⟩ => leastAt m c t
  Φ t := ringAt c (blocks m c) t.val
  q _ := fullShare
  owed _ := 0

theorem A_eq (c : Dev nD) (w : Fin cfg0.W) : (dats m 0 c).A w = V m c (Pipeline.arrRef spec0 w) := by dsimp only [dats]
theorem ring_castSucc (c : Dev nD) (t : Fin cfg0.N) : (dats m 0 c).Φ t.castSucc = ringAt c (blocks m c) t.val := by
  dsimp only [dats]; simp only [Fin.coe_castSucc]
theorem ring_succ (c : Dev nD) (t : Fin cfg0.N) : (dats m 0 c).Φ t.succ = ringAt c (blocks m c) (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = nearAt m c t := by dsimp only [dats]
theorem after_4 (c : Dev nD) (t : Fin cfg0.N) : (dats m 0 c).after 4 t = leastAt m c t := by dsimp only [dats]
/-- Input 0's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input 1's buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input 2's buffer holds its block at every point. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The point's own flight, its block named by its row block. -/
theorem flying_bk (c : Dev nD) (t : Fin cfg0.N) :
    flying c (k0_pay2 (iblk m c 0 t) (iblk m c 1 t) (iblk m c 2 t)) (Ring.sl 2 t.val) (Ring.bk 8 t.val)
      = flying c (blocks m c (Ring.bk 8 t.val)) (Ring.sl 2 t.val) (Ring.bk 8 t.val) := by
  rw [blocks_bk]; rfl
/-- The point's own row block written, likewise. -/
theorem filled_bk (c : Dev nD) (t : Fin cfg0.N) :
    filled c (k0_pay2 (iblk m c 0 t) (iblk m c 1 t) (iblk m c 2 t)) (Ring.bk 8 t.val)
      = filled c (blocks m c (Ring.bk 8 t.val)) (Ring.bk 8 t.val) := by
  rw [blocks_bk]; rfl

set_option maxHeartbeats 1200000 in
/-- The first point: both slots free. -/
theorem body_zero (c : Dev nD) (t : Fin cfg0.N) (h : t.val = 0) (hc0 : ¬k0_cond1 (grid0.coords t) = 1#1) (hc1 : ¬k0_cond2 (grid0.coords t) = 1#1) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  simp only [before_0, before_1, before_2]
  rw [after_0, after_1, after_2, after_3, after_4, ring_castSucc m c t, ring_succ m c t]
  unfold Dat.owesAt Pipeline.owesWithin
  rw [show (dats m 0 c).owed t.castSucc = 0 from rfl, show (dats m 0 c).owed t.succ = 0 from rfl]
  unfold ringAt
  rw [Ring.AtBΦ_lt _ _ _ _ _ t.val (by omega), Ring.AtB2_zero' 2 _ _ _ _ t.val h, Ring.AtBΦ_lt _ _ _ _ _ (t.val + 1) (by omega), Ring.AtB22_next_zero' _ _ _ _ t.val h]
  iintro ⟨⟨⟨⟨⟨%fA, HpA⟩, ⟨%fB, HpB⟩⟩, HA⟩, ⟨Hq0, Hq1, ⟨%e, HS⟩⟩, HX⟩, ⟨%W, -, HW⟩, ⟨%d0, H0⟩, ⟨%d1, H1⟩, ⟨%d2, H2⟩, ⟨%d3, H3⟩, ⟨%d4, H4⟩⟩
  iapply (runA c t _ _ _ _ _ _ _ _ _ _ hc0 hc1 (iblk m c 0 t) (iblk m c 1 t) (iblk m c 2 t) W _ e fA fB)
  isplitl [H0]; · iexact H0
  isplitl [H1]; · iexact H1
  isplitl [H2]; · iexact H2
  isplitl [H3]; · iexists _; iexact H3
  isplitl [H4]; · iexists _; iexact H4
  isplitl [Hq0]; · iexact Hq0
  isplitl [Hq1]; · iexact Hq1
  isplitl [HS]; · iexact HS
  isplitl [HpA]; · iexact HpA
  isplitl [HpB]; · iexact HpB
  isplitl [HW]; · iexact HW
  iintro %W' ⟨H0, H1, H2, H3, H4, Hn, HW'⟩
  isplitl [HA HX Hn]
  · isplitl [HA]; · iexact HA
    isplitl [HX]; · iexact HX
    iapply (Entails.of_eq (flying_bk m c t)); iexact Hn
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 1200000 in
/-- The second point: the other slot in flight. -/
theorem body_one (c : Dev nD) (t : Fin cfg0.N) (h : t.val = 1) (hc0 : ¬k0_cond1 (grid0.coords t) = 1#1) (hc1 : ¬k0_cond2 (grid0.coords t) = 1#1) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  simp only [before_0, before_1, before_2]
  rw [after_0, after_1, after_2, after_3, after_4, ring_castSucc m c t, ring_succ m c t]
  unfold Dat.owesAt Pipeline.owesWithin
  rw [show (dats m 0 c).owed t.castSucc = 0 from rfl, show (dats m 0 c).owed t.succ = 0 from rfl]
  unfold ringAt
  rw [Ring.AtBΦ_lt _ _ _ _ _ t.val (by omega), Ring.AtB22_one' _ _ _ _ t.val h (by decide), Ring.AtBΦ_lt _ _ _ _ _ (t.val + 1) (by omega), Ring.AtB22_next_one' _ _ _ _ t.val h]
  iintro ⟨⟨⟨⟨⟨%fA, HpA⟩, ⟨%fB, HpB⟩⟩, HA⟩, ⟨Hq0, Hq1, ⟨%e, HS⟩⟩, HX⟩, ⟨%W, -, HW⟩, ⟨%d0, H0⟩, ⟨%d1, H1⟩, ⟨%d2, H2⟩, ⟨%d3, H3⟩, ⟨%d4, H4⟩⟩
  iapply (runA c t _ _ _ _ _ _ _ _ _ _ hc0 hc1 (iblk m c 0 t) (iblk m c 1 t) (iblk m c 2 t) W _ e fA fB)
  isplitl [H0]; · iexact H0
  isplitl [H1]; · iexact H1
  isplitl [H2]; · iexact H2
  isplitl [H3]; · iexists _; iexact H3
  isplitl [H4]; · iexists _; iexact H4
  isplitl [Hq0]; · iexact Hq0
  isplitl [Hq1]; · iexact Hq1
  isplitl [HS]; · iexact HS
  isplitl [HpA]; · iexact HpA
  isplitl [HpB]; · iexact HpB
  isplitl [HW]; · iexact HW
  iintro %W' ⟨H0, H1, H2, H3, H4, Hn, HW'⟩
  isplitl [HA HX Hn]
  · isplitl [HA]; · iexact HA
    isplitl [HX]; · iexact HX
    iapply (Entails.of_eq (flying_bk m c t)); iexact Hn
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 1200000 in
/-- From the third point on, before the last. -/
theorem body_steady (c : Dev nD) (t : Fin cfg0.N) (h2 : 2 ≤ t.val) (h7 : t.val < 7) (hc0 : k0_cond1 (grid0.coords t) = 1#1) (hc1 : ¬k0_cond2 (grid0.coords t) = 1#1) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  simp only [before_0, before_1, before_2]
  rw [after_0, after_1, after_2, after_3, after_4, ring_castSucc m c t, ring_succ m c t]
  unfold Dat.owesAt Pipeline.owesWithin
  rw [show (dats m 0 c).owed t.castSucc = 0 from rfl, show (dats m 0 c).owed t.succ = 0 from rfl]
  unfold ringAt
  rw [Ring.AtBΦ_lt _ _ _ _ _ t.val (by omega), Ring.AtB22_here _ _ _ _ t.val h2 (by omega), Ring.AtBΦ_lt _ _ _ _ _ (t.val + 1) (by omega), Ring.AtB22_next _ _ _ _ t.val h2 (by omega)]
  iintro ⟨⟨⟨⟨⟨%fA, HpA⟩, ⟨%fB, HpB⟩⟩, HA⟩, HB, ⟨%gA, %gA', %gB, %gB', %hg, HFA, HFB⟩, HX⟩, ⟨%W, -, HW⟩, ⟨%d0, H0⟩, ⟨%d1, H1⟩, ⟨%d2, H2⟩, ⟨%d3, H3⟩, ⟨%d4, H4⟩⟩
  iapply (runB c t _ _ _ _ _ _ _ _ _ _ hc0 hc1 (iblk m c 0 t) (iblk m c 1 t) (iblk m c 2 t) W _ gA gB gA' gB' fA fB)
  isplitl [H0]; · iexact H0
  isplitl [H1]; · iexact H1
  isplitl [H2]; · iexact H2
  isplitl [H3]; · iexists _; iexact H3
  isplitl [H4]; · iexists _; iexact H4
  isplitl [HFA]; · iexact HFA
  isplitl [HFB]; · iexact HFB
  isplitl [HpA]; · iexact HpA
  isplitl [HpB]; · iexact HpB
  isplitl [HW]; · iexact HW
  iintro %W' ⟨H0, H1, H2, H3, H4, Hn, HgA, HgB, HW'⟩
  isplitl [HA HB HX Hn HgA HgB]
  · isplitl [HA]; · iexact HA
    isplitl [HB HgA HgB]
    · isplitl [HgA HgB]
      · iexists _, _; isplitr
        rotate_left
        · isplitl [HgA]
          · iexact HgA
          · iexact HgB
        · ipureintro; exact hg
      · iexact HB
    isplitl [HX]; · iexact HX
    iapply (Entails.of_eq (flying_bk m c t)); iexact Hn
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 1200000 in
/-- The last point. -/
theorem body_last (c : Dev nD) (t : Fin cfg0.N) (h7 : t.val = 7) (hc0 : k0_cond1 (grid0.coords t) = 1#1) (hc1 : k0_cond2 (grid0.coords t) = 1#1) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  simp only [before_0, before_1, before_2]
  rw [after_0, after_1, after_2, after_3, after_4, ring_castSucc m c t, ring_succ m c t]
  unfold Dat.owesAt Pipeline.owesWithin
  rw [show (dats m 0 c).owed t.castSucc = 0 from rfl, show (dats m 0 c).owed t.succ = 0 from rfl]
  unfold ringAt
  rw [Ring.AtBΦ_lt _ _ _ _ _ t.val (by omega), Ring.AtB22_here_last _ _ _ _ t.val (by omega) (by omega), Ring.AtBΦ_end _ _ _ _ _ (t.val + 1) (by omega), Ring.AtB22_drained _ _ t.val (by omega) (by omega)]
  iintro ⟨⟨⟨⟨%fA, HpA⟩, ⟨%fB, HpB⟩⟩, HB, ⟨%gA, %gA', %gB, %gB', %hg, HFA, HFB⟩, ⟨%hA, %hA', %hB, %hB', %hh, HGA, HGB⟩⟩, ⟨%W, -, HW⟩, ⟨%d0, H0⟩, ⟨%d1, H1⟩, ⟨%d2, H2⟩, ⟨%d3, H3⟩, ⟨%d4, H4⟩⟩
  iapply (runC c t _ _ _ _ _ _ _ _ _ _ hc0 hc1 (iblk m c 0 t) (iblk m c 1 t) (iblk m c 2 t) W _ gA gB gA' gB' hA hB hA' hB' fA fB)
  isplitl [H0]; · iexact H0
  isplitl [H1]; · iexact H1
  isplitl [H2]; · iexact H2
  isplitl [H3]; · iexists _; iexact H3
  isplitl [H4]; · iexists _; iexact H4
  isplitl [HFA]; · iexact HFA
  isplitl [HFB]; · iexact HFB
  isplitl [HGA]; · iexact HGA
  isplitl [HGB]; · iexact HGB
  isplitl [HpA]; · iexact HpA
  isplitl [HpB]; · iexact HpB
  isplitl [HW]; · iexact HW
  iintro %W' ⟨H0, H1, H2, H3, H4, Hn, HgA, HgB, HhA, HhB, Hi, Hj, HW'⟩
  isplitl [HB Hn HgA HgB HhA HhB Hi Hj]
  · isplitl [HB Hn HgA HgB HhA HhB]
    · isplitl [Hn]; · iapply (Entails.of_eq (filled_bk m c t)); iexact Hn
      isplitl [HgA HgB]
      · iexists _, _; isplitr
        rotate_left
        · isplitl [HgA]
          · iexact HgA
          · iexact HgB
        · ipureintro; exact hg
      isplitl [HhA HhB]
      · iexists _, _; isplitr
        rotate_left
        · isplitl [HhA]
          · iexact HhA
          · iexact HhB
        · ipureintro; exact hh
      iexact HB
    isplitl [Hi]; · iexact Hi
    iexact Hj
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have e1 := cond1_iff t
  have e2 := cond2_iff t
  by_cases h2 : 2 ≤ t.val
  · by_cases h7 : t.val = 7
    · exact body_last m c t h7 (e1.mpr h2) (e2.mpr h7)
    · exact body_steady m c t h2 (by omega) (e1.mpr h2) (fun h => h7 (e2.mp h))
  · rcases (show t.val = 0 ∨ t.val = 1 by omega) with h | h
    · exact body_zero m c t h (fun k => h2 (e1.mp k)) (fun k => by have := e2.mp k; omega)
    · exact body_one m c t h (fun k => h2 (e1.mp k)) (fun k => by have := e2.mp k; omega)

/-- The body table's row at point `t`'s slots is the body at point `t`. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Own

end
-- ==== Proof.Own.KernelIdeal.Run.lean ====
/- The launch: every execution ends with the arguments unchanged, the counters at zero, and the three results at what the
   points stored. -/
module

public import proofs.«01_k».proof.Proof.Own.KernelIdeal.Body
public import Idealize.ShloMosaic.Lib.Pipeline.FrameSuffixV

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region takes and gives back -/

/-- The transfer cells. -/
abbrev osem : Fin 4 → SemLoc sig := fun j => (![SemLoc.dma 8, SemLoc.dma 9, SemLoc.dma 10, SemLoc.dma 11] : Fin 4 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄) = cells c := by
  rw [Pipeline.ownSems0_eq_of_list c osem [0, 1, 2, 3] (by decide) (by decide)]; rfl
/-- No buffer is only read by the transfers; -/
def Hs : Finset (Ref sig .tc) := {}
theorem Hs_sub : Hs ⊆ Pipeline.restRefs sig spec0 := by decide
/-- the distances are the one they write. -/
def Rs : Finset (Ref sig .tc) := {main_v3_0}
theorem Rs_sub : Rs ⊆ Pipeline.restRefs sig spec0 \ Hs := by decide

/-- What the written buffer ends at: the stack of the blocks stored (any other reference, as the region finds it). -/
def Gs (c : Dev nD) (b : Ref sig .tc) : Buf (Elt F) ((c : Thread nD τ).loc b) :=
  if h : b = main_v3_0 then h ▸ (stack (blocks m c) : Buf (Elt F) ((c : Thread nD τ).loc main_v3_0)) else V m c b
theorem Gs_v3_0 (c : Dev nD) : Gs m c main_v3_0 = (stack (blocks m c) : Buf (Elt F) ((c : Thread nD τ).loc main_v3_0)) := dif_pos rfl

/-- What the region takes and gives back, conjunct by conjunct. -/
theorem held_eq (X : (c : Dev nD) → (b : Ref sig .tc) → Buf (Elt F) ((c : Thread nD τ).loc b)) (c : Dev nD) :
    (Pipeline.ΦDRV osem spec0 Hs Rs (V m) X c : sProp 𝕄)
      = iprop((∃ e : Buf (Elt F) ((c : Thread nD τ).loc cc0_scratch0), ((c : Thread nD τ).loc cc0_scratch0) ↦{fullShare} e) ∗ cells c ∗ emp
        ∗ ((c : Thread nD τ).loc main_v3_0) ↦{fullShare} X c main_v3_0) := by
  unfold Pipeline.ΦDRV
  rw [scopedRest0_eq, ownSems_eq, BI.bigSep_eq_bigSepL_of_eq (S := Hs) [] (by decide) (by decide), BI.bigSep_eq_bigSepL_of_eq (S := Rs) [main_v3_0] (by decide) (by decide)]
  rfl

/-- What the launch hands the region is the ring before the first point; -/
theorem hin (c : Dev nD) : Pipeline.ΦDRV osem spec0 Hs Rs (V m) (V m) c ⊢ (dats m 0 c).Φ 0 := by
  rw [held_eq, show (dats m 0 c).Φ 0 = ringAt c (blocks m c) 0 from rfl]
  iintro ⟨HS, HC, -, HO⟩
  iapply (ring_in c (blocks m c) (V m c main_v3_0))
  isplitl [HS]; · iexact HS
  isplitl [HC]; · iexact HC
  iexact HO
/-- and the ring after the last point is what the region gives back. -/
theorem hout (c : Dev nD) : (dats m 0 c).Φ (Fin.last cfg0.N) ⊢ Pipeline.ΦDRV osem spec0 Hs Rs (V m) (Gs m) c := by
  rw [held_eq, show (dats m 0 c).Φ (Fin.last cfg0.N) = ringAt c (blocks m c) grid0.N from rfl, N_0, Gs_v3_0]
  iintro HR
  ihave H := (ring_out c (blocks m c)) $$ HR
  icases H with ⟨HS, HC, HO⟩
  isplitl [HS]; · iexact HS
  isplitl [HC]; · iexact HC
  isplitr; · iempintro
  iexact HO

/-! ## The run -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A core's buffers when the region is left. -/
abbrev Vend (c : Dev nD) : Valuation τ sig (Elt F) :=
  Pipeline.withArrays spec0 c (Pipeline.withR (V0 m c) Rs c (Gs m c)) fun w => (dats m 0 c).arrAt w cfg0.N

-- the launch theorem's implicit arguments are found by unifying its conclusion with this one, which takes unfolding plain
-- definitions in a metavariable's type
set_option backward.isDefEq.respectTransparency.types false in
set_option maxHeartbeats 800000 in
/-- Every execution ends with each window's array at what the points wrote back, every other buffer as the host lines after
    the region leave it, and every counter at zero. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (Vend m c) (Proc.devRef .tc b))
      ∧ r.2.sem = fun _ => 0) :=
  Pipeline.θ_run_frame_dmaR_aroundV (Q' := _) (hQ' := fun _ h => h) cfgs (dats m) (0 : Fin 1) launch0 osem defs₀ Variants.none ownSemFacts Hs Rs Hs_sub Rs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gs m)
    (hmain := hmain m Variants.none) (hA := A_eq m) (hin := hin m) (hout := hout m)

/-- The arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_main m ρ)

end Cert.KernelIdeal.Own

end
-- ==== Proof.Own.ReferenceIdeal.Run.lean ====
/- The reference's run: its operations as four lines, what each line leaves at its result, and the three results of the
   whole over the two arguments. -/
module

public import proofs.«01_k».proof.Proof.Gen.ReferenceIdeal
public import Idealize.ShloMosaic.Lib.StableHlo.Run
public import Idealize.ShloMosaic.Lib.Quiescent

@[expose] public section

set_option maxRecDepth 400000

noncomputable section

namespace Cert.ReferenceIdeal.Own

open Idealize.ShloMosaic Idealize.ShloMosaic.StableHlo Idealize.SL.Sem
open Cert.ReferenceIdeal Cert.ReferenceIdeal.Gen

variable {F : FTy → Type} [FloatOps F]

/-! ## The results as functions of the arguments -/

/-- The squared distances, clamped below at zero. -/
def sq (X : Vec F S16384x16 .f32) (C : Vec F S1000x16 .f32) : Vec F S16384x1000 .f32 :=
  maximumf (subf
    (addf (broadcastInDim S16384x1000 ![0, 1] bcast_S16384x1_S16384x1000_0_1
        (broadcastInDim S16384x1 ![0] bcast_S16384_S16384x1_0 (Host.reduceAdd (mulf X X) (constant S_ .f32 0x00000000#32) reducesTo_S16384x16_S16384_d1 h_S_)))
      (broadcastInDim S16384x1000 ![0, 1] bcast_S1x1000_S16384x1000_0_1
        (broadcastInDim S1x1000 ![1] bcast_S1000_S1x1000_1 (Host.reduceAdd (mulf C C) (constant S_ .f32 0x00000000#32) reducesTo_S1000x16_S1000_d1 h_S_))))
    (mulf (broadcastInDim S16384x1000 ![] bcast_S_S16384x1000 (constant S_ .f32 0x40000000#32))
      (Host.dotGeneral dot_S16384x16_S16x1000_S16384x1000_1_0_0_1_n_n none X (transpose S16x1000 [1, 0] C transposes_S1000x16_S16x1000_1_0))))
    (broadcastInDim S16384x1000 ![] bcast_S_S16384x1000 (constant S_ .f32 0x00000000#32))

/-- The distances. -/
def dist (X : Vec F S16384x16 .f32) (C : Vec F S1000x16 .f32) : Vec F S16384x1000 .f32 := Host.sqrt (sq X C)

/-- The second halves of a reduction of pairs. -/
def seconds {s t u : Shape} {axes : List (Fin s.rank)} (f : F .f32 × BitVec 32 → F .f32 × BitVec 32 → F .f32 × BitVec 32)
    (x : FVec F s .f32) (y : IVec s 32) (vx : FVec F u .f32) (vy : IVec u 32) (h : s.ReducesTo axes t) (hu : 0 < u.numel) : IVec t 32 :=
  fun j => (Host.argReduce f x y vx vy h hu j).2

/-- The index of the least entry of each row of `D`. -/
def near (D : Vec F S16384x1000 .f32) : Vec F S16384 .i32 :=
  seconds reducer_argmin_f32_i32 D (iotaInDim S16384x1000 32 1) (constant S_ .f32 0x7F800000#32) (constantI S_ 32 0#32)
    reducesTo_S16384x1000_S16384_d1 h_S_

/-- The index made non-negative: `I` itself, or `I` plus a thousand where it is below zero. -/
def wrapped (I : Vec F S16384 .i32) : Vec F S16384x1x1 .i32 :=
  shapeCast S16384x1x1 (select (cmpi .slt (broadcastInDim S16384x1 ![0] bcast_S16384_S16384x1_0 I) (broadcastInDim S16384x1 ![] bcast_S_S16384x1 (constantI S_ 32 0#32)))
    (addi (broadcastInDim S16384x1 ![0] bcast_S16384_S16384x1_0 I) (broadcastInDim S16384x1 ![] bcast_S_S16384x1 (constantI S_ 32 1000#32)))
    (broadcastInDim S16384x1 ![0] bcast_S16384_S16384x1_0 I)) shapeCasts_S16384x1_S16384x1x1

/-- Whether the wrapped index names a column. -/
def inside (J : Vec F S16384x1x1 .i32) : Vec F S16384x1 .i1 :=
  Host.reduce IntOp.andi (andi (cmpi .sge J (broadcastInDim S16384x1x1 ![] bcast_S_S16384x1x1 (constantI S_ 32 0#32)))
    (cmpi .sle J (broadcastInDim S16384x1x1 ![0, 1, 2] bcast_S1x1x1_S16384x1x1_0_1_2 (broadcastInDim S1x1x1 ![2] bcast_S1_S1x1x1_2 (constantI S1 32 999#32)))))
    (constantI S_ 1 1#1) reducesTo_S16384x1x1_S16384x1_d2 h_S_

/-- The entry of each row of `D` at the wrapped index. -/
def taken (D : Vec F S16384x1000 .f32) (J : Vec F S16384x1x1 .i32) : Vec F S16384x1 .f32 :=
  select (inside (F := F) J) (Host.gather gather_S16384x1000_S16384x1x1_S16384x1_n_1_0_0_1_2_11 D J)
    (broadcastInDim S16384x1 ![] bcast_S_S16384x1 (constant S_ .f32 0x7FC00000#32))

/-- The squares of a column. -/
def squared (T : Vec F S16384x1 .f32) : Vec F S16384 .f32 :=
  mulf (shapeCast S16384 T shapeCasts_S16384x1_S16384) (shapeCast S16384 T shapeCasts_S16384x1_S16384)

/-! ## The run -/

/-- The operations up to the distances. -/
def opsA : List (HloOp τ sig (Elt F)) := [
  StableHlo.binary main_arg0 main_arg0 main_v0 (mulf : (⟨S16384x16, .f32⟩ : BufTy).Contents (Elt F) → (⟨S16384x16, .f32⟩ : BufTy).Contents (Elt F) → (⟨S16384x16, .f32⟩ : BufTy).Contents (Elt F)),
  StableHlo.nullary main_cst (constant S_ .f32 0x00000000#32),
  StableHlo.binary main_v0 main_cst main_v1 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
  StableHlo.unary main_v1 main_v2 (broadcastInDim S16384x1 ![0] bcast_S16384_S16384x1_0 : (⟨S16384, .f32⟩ : BufTy).Contents (Elt F) → (⟨S16384x1, .f32⟩ : BufTy).Contents (Elt F)),
  StableHlo.binary main_arg1 main_arg1 main_v3 (mulf : (⟨S1000x16, .f32⟩ : BufTy).Contents (Elt F) → (⟨S1000x16, .f32⟩ : BufTy).Contents (Elt F) → (⟨S1000x16, .f32⟩ : BufTy).Contents (Elt F)),
  StableHlo.nullary main_cst_0 (constant S_ .f32 0x00000000#32),
  StableHlo.binary main_v3 main_cst_0 main_v4 ((fun x v => Host.reduceAdd x v reducesTo_S1000x16_S1000_d1 h_S_) : (⟨S1000x16, .f32⟩ : BufTy).Contents (Elt F) → (⟨S_, .f32⟩ : BufTy).Contents (Elt F) → (⟨S1000, .f32⟩ : BufTy).Contents (Elt F)),
  StableHlo.unary main_v4 main_v5 (broadcastInDim S1x1000 ![1] bcast_S1000_S1x1000_1 : (⟨S1000, .f32⟩ : BufTy).Contents (Elt F) → (⟨S1x1000, .f32⟩ : BufTy).Contents (Elt F)),
  StableHlo.unary main_v2 main_v6 (broadcastInDim S16384x1000 ![0, 1] bcast_S16384x1_S16384x1000_0_1 : (⟨S16384x1, .f32⟩ : BufTy).Contents (Elt F) → (⟨S16384x1000, .f32⟩ : BufTy).Contents (Elt F)),
  StableHlo.unary main_v5 main_v7 (broadcastInDim S16384x1000 ![0, 1] bcast_S1x1000_S16384x1000_0_1 : (⟨S1x1000, .f32⟩ : BufTy).Contents (Elt F) → (⟨S16384x1000, .f32⟩ : BufTy).Contents (Elt F)),
  StableHlo.binary main_v6 main_v7 main_v8 (addf : (⟨S16384x1000, .f32⟩ : BufTy).Contents (Elt F) → (⟨S16384x1000, .f32⟩ : BufTy).Contents (Elt F) → (⟨S16384x1000, .f32⟩ : BufTy).Contents (Elt F)),
  StableHlo.unary main_arg1 main_v9 ((transpose S16x1000 [1, 0] · transposes_S1000x16_S16x1000_1_0) : (⟨S1000x16, .f32⟩ : BufTy).Contents (Elt F) → (⟨S16x1000, .f32⟩ : BufTy).Contents (Elt F)),
  StableHlo.binary main_arg0 main_v9 main_v10 ((fun l r => Host.dotGeneral dot_S16384x16_S16x1000_S16384x1000_1_0_0_1_n_n none l r) : (⟨S16384x16, .f32⟩ : BufTy).Contents (Elt F) → (⟨S16x1000, .f32⟩ : BufTy).Contents (Elt F) → (⟨S16384x1000, .f32⟩ : BufTy).Contents (Elt F)),
  StableHlo.nullary main_cst_1 (constant S_ .f32 0x40000000#32),
  StableHlo.unary main_cst_1 main_v11 (broadcastInDim S16384x1000 ![] bcast_S_S16384x1000 : (⟨S_, .f32⟩ : BufTy).Contents (Elt F) → (⟨S16384x1000, .f32⟩ : BufTy).Contents (Elt F)),
  StableHlo.binary main_v11 main_v10 main_v12 (mulf : (⟨S16384x1000, .f32⟩ : BufTy).Contents (Elt F) → (⟨S16384x1000, .f32⟩ : BufTy).Contents (Elt F) → (⟨S16384x1000, .f32⟩ : BufTy).Contents (Elt F)),
  StableHlo.binary main_v8 main_v12 main_v13 (subf : (⟨S16384x1000, .f32⟩ : BufTy).Contents (Elt F) → (⟨S16384x1000, .f32⟩ : BufTy).Contents (Elt F) → (⟨S16384x1000, .f32⟩ : BufTy).Contents (Elt F)),
  StableHlo.nullary main_cst_2 (constant S_ .f32 0x00000000#32),
  StableHlo.unary main_cst_2 main_v14 (broadcastInDim S16384x1000 ![] bcast_S_S16384x1000 : (⟨S_, .f32⟩ : BufTy).Contents (Elt F) → (⟨S16384x1000, .f32⟩ : BufTy).Contents (Elt F)),
  StableHlo.binary main_v13 main_v14 main_v15 (maximumf : (⟨S16384x1000, .f32⟩ : BufTy).Contents (Elt F) → (⟨S16384x1000, .f32⟩ : BufTy).Contents (Elt F) → (⟨S16384x1000, .f32⟩ : BufTy).Contents (Elt F)),
  StableHlo.unary main_v15 main_v16 (Host.sqrt : (⟨S16384x1000, .f32⟩ : BufTy).Contents (Elt F) → (⟨S16384x1000, .f32⟩ : BufTy).Contents (Elt F))]

/-- The operations of the nearest index. -/
def opsB : List (HloOp τ sig (Elt F)) := [
  StableHlo.nullary main_call0_v0 (iotaInDim S16384x1000 32 1),
  StableHlo.nullary main_call0_cst (constant S_ .f32 0x7F800000#32),
  StableHlo.nullary main_call0_c (constantI S_ 32 0#32),
  StableHlo.quaternary main_v16 main_call0_v0 main_call0_cst main_call0_c main_call0_v1_0 (fun x y u v j => (Host.argReduce reducer_argmin_f32_i32 x y u v reducesTo_S16384x1000_S16384_d1 h_S_ j).1),
  StableHlo.quaternary main_v16 main_call0_v0 main_call0_cst main_call0_c main_v17 (fun x y u v j => (Host.argReduce reducer_argmin_f32_i32 x y u v reducesTo_S16384x1000_S16384_d1 h_S_ j).2)]

/-- The operations that take the distance at the nearest index. -/
def opsC : List (HloOp τ sig (Elt F)) := [
  StableHlo.unary main_v17 main_v18 (broadcastInDim S16384x1 ![0] bcast_S16384_S16384x1_0 : (⟨S16384, .i32⟩ : BufTy).Contents (Elt F) → (⟨S16384x1, .i32⟩ : BufTy).Contents (Elt F)),
  StableHlo.nullary main_call1_c (constantI S_ 32 0#32),
  StableHlo.unary main_call1_c main_call1_v0 (broadcastInDim S16384x1 ![] bcast_S_S16384x1),
  StableHlo.binary main_v18 main_call1_v0 main_call1_v1 (cmpi .slt),
  StableHlo.nullary main_call1_c_0 (constantI S_ 32 1000#32),
  StableHlo.unary main_call1_c_0 main_call1_v2 (broadcastInDim S16384x1 ![] bcast_S_S16384x1),
  StableHlo.binary main_v18 main_call1_v2 main_call1_v3 addi,
  StableHlo.ternary main_call1_v1 main_call1_v3 main_v18 main_call1_v4 select,
  StableHlo.reshape main_call1_v4 main_call1_v5 (rfl : (.i32 : EltTy) = .i32) shapeCasts_S16384x1_S16384x1x1,
  StableHlo.nullary main_call1_c_1 (constantI S1 32 999#32),
  StableHlo.nullary main_call1_c_2 (constantI S_ 32 0#32),
  StableHlo.unary main_call1_c_2 main_call1_v6 (broadcastInDim S16384x1x1 ![] bcast_S_S16384x1x1),
  StableHlo.binary main_call1_v5 main_call1_v6 main_call1_v7 (cmpi .sge),
  StableHlo.unary main_call1_c_1 main_call1_v8 (broadcastInDim S1x1x1 ![2] bcast_S1_S1x1x1_2),
  StableHlo.unary main_call1_v8 main_call1_v9 (broadcastInDim S16384x1x1 ![0, 1, 2] bcast_S1x1x1_S16384x1x1_0_1_2),
  StableHlo.binary main_call1_v5 main_call1_v9 main_call1_v10 (cmpi .sle),
  StableHlo.binary main_call1_v7 main_call1_v10 main_call1_v11 andi,
  StableHlo.nullary main_call1_c_3 (constantI S_ 1 1#1),
  StableHlo.binary main_call1_v11 main_call1_c_3 main_call1_v12 (fun x v => Host.reduce IntOp.andi x v reducesTo_S16384x1x1_S16384x1_d2 h_S_),
  StableHlo.binary main_v16 main_call1_v5 main_call1_v13 (fun x i => Host.gather gather_S16384x1000_S16384x1x1_S16384x1_n_1_0_0_1_2_11 x i),
  StableHlo.nullary main_call1_cst (constant S_ .f32 0x7FC00000#32),
  StableHlo.unary main_call1_cst main_call1_v14 (broadcastInDim S16384x1 ![] bcast_S_S16384x1),
  StableHlo.ternary main_call1_v12 main_call1_v13 main_call1_v14 main_v19 select]

/-- The operations that square it. -/
def opsD : List (HloOp τ sig (Elt F)) := [
  StableHlo.reshape main_v19 main_v20 (rfl : (.f32 : EltTy) = .f32) shapeCasts_S16384x1_S16384,
  StableHlo.binary main_v20 main_v20 main_v21 (mulf : (⟨S16384, .f32⟩ : BufTy).Contents (Elt F) → (⟨S16384, .f32⟩ : BufTy).Contents (Elt F) → (⟨S16384, .f32⟩ : BufTy).Contents (Elt F))]

/-- All the operations, in order. -/
def ops : List (HloOp τ sig (Elt F)) := opsA ++ (opsB ++ (opsC ++ opsD))

/-- The program is its operations in order. -/
theorem main_eq (d : Dev nD) : main (F := F) d = seq ops := by rfl

theorem ops_sub : (ops (F := F)).Forall fun op => op.bufs ⊆ tcRefs τ sig := by
  simp only [ops, opsA, opsB, opsC, opsD, List.cons_append, List.nil_append, List.forall_cons, List.Forall,
    nullary_bufs_sub, unary_bufs_sub, binary_bufs_sub, ternary_bufs_sub, quaternary_bufs_sub, reshape_bufs_sub, and_self]

theorem after_append (l₁ l₂ : List (HloOp τ sig (Elt F))) (V : Valuation τ sig (Elt F)) :
    after (l₁ ++ l₂) V = after l₂ (after l₁ V) := by
  induction l₁ generalizing V with
  | nil => rfl
  | cons op l ih => exact ih _

variable (V : Valuation τ sig (Elt F))

theorem A_v16 : after opsA V (Proc.devRef .tc main_v16) = dist (V (Proc.devRef .tc main_arg0)) (V (Proc.devRef .tc main_arg1)) := by
  unfold opsA; after_results <;> rfl
theorem A_arg0 : after opsA V (Proc.devRef .tc main_arg0) = V (Proc.devRef .tc main_arg0) := by unfold opsA; after_results <;> rfl
theorem A_arg1 : after opsA V (Proc.devRef .tc main_arg1) = V (Proc.devRef .tc main_arg1) := by unfold opsA; after_results <;> rfl
theorem B_v17 : after opsB V (Proc.devRef .tc main_v17) = near (V (Proc.devRef .tc main_v16)) := by unfold opsB; after_results <;> rfl
theorem B_v16 : after opsB V (Proc.devRef .tc main_v16) = V (Proc.devRef .tc main_v16) := by unfold opsB; after_results <;> rfl
theorem B_arg0 : after opsB V (Proc.devRef .tc main_arg0) = V (Proc.devRef .tc main_arg0) := by unfold opsB; after_results <;> rfl
theorem B_arg1 : after opsB V (Proc.devRef .tc main_arg1) = V (Proc.devRef .tc main_arg1) := by unfold opsB; after_results <;> rfl
theorem C_v19 : after opsC V (Proc.devRef .tc main_v19) = taken (V (Proc.devRef .tc main_v16)) (wrapped (V (Proc.devRef .tc main_v17))) := by
  unfold opsC; after_results <;> rfl
theorem C_v16 : after opsC V (Proc.devRef .tc main_v16) = V (Proc.devRef .tc main_v16) := by unfold opsC; after_results <;> rfl
theorem C_v17 : after opsC V (Proc.devRef .tc main_v17) = V (Proc.devRef .tc main_v17) := by unfold opsC; after_results <;> rfl
theorem C_arg0 : after opsC V (Proc.devRef .tc main_arg0) = V (Proc.devRef .tc main_arg0) := by unfold opsC; after_results <;> rfl
theorem C_arg1 : after opsC V (Proc.devRef .tc main_arg1) = V (Proc.devRef .tc main_arg1) := by unfold opsC; after_results <;> rfl
theorem D_v21 : after opsD V (Proc.devRef .tc main_v21) = squared (V (Proc.devRef .tc main_v19)) := by unfold opsD; after_results <;> rfl
theorem D_v16 : after opsD V (Proc.devRef .tc main_v16) = V (Proc.devRef .tc main_v16) := by unfold opsD; after_results <;> rfl
theorem D_v17 : after opsD V (Proc.devRef .tc main_v17) = V (Proc.devRef .tc main_v17) := by unfold opsD; after_results <;> rfl
theorem D_arg0 : after opsD V (Proc.devRef .tc main_arg0) = V (Proc.devRef .tc main_arg0) := by unfold opsD; after_results <;> rfl
theorem D_arg1 : after opsD V (Proc.devRef .tc main_arg1) = V (Proc.devRef .tc main_arg1) := by unfold opsD; after_results <;> rfl

variable (m : (ℓ : Loc nD τ sig) → Buf (Elt F) ℓ) (ρ : Dev nD → PrngReg)

/-- The two arguments at launch. -/
abbrev argX (c : Dev nD) : Vec F S16384x16 .f32 := m ((c.tc : Thread nD τ).loc main_arg0)
abbrev argC (c : Dev nD) : Vec F S1000x16 .f32 := m ((c.tc : Thread nD τ).loc main_arg1)

/-- Every run of the reference ends with the three results at their functions of the arguments and the arguments
    unchanged. -/
theorem run_main : θ_run defs (onTc (τ := τ) (main (F := F))) ⟨m, fun _ => 0, ρ⟩ (fun r => ∀ c : Dev nD,
      r.2.mem ((c.tc : Thread nD τ).loc main_v16) = dist (argX m c) (argC m c)
      ∧ r.2.mem ((c.tc : Thread nD τ).loc main_v17) = near (dist (argX m c) (argC m c))
      ∧ r.2.mem ((c.tc : Thread nD τ).loc main_v21) = squared (taken (dist (argX m c) (argC m c)) (wrapped (near (dist (argX m c) (argC m c)))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_seq (by decide) (by decide) defs main (fun _ => ops) main_eq (fun _ => ops_sub) m ρ)
  have e16 : after ops (launchContents m c) (Proc.devRef .tc main_v16) = dist (argX m c) (argC m c) := by
    rw [ops, after_append, after_append, after_append, D_v16, C_v16, B_v16, A_v16]
  have e17 : after ops (launchContents m c) (Proc.devRef .tc main_v17) = near (dist (argX m c) (argC m c)) := by
    rw [ops, after_append, after_append, after_append, D_v17, C_v17, B_v17, A_v16]
  have e21 : after ops (launchContents m c) (Proc.devRef .tc main_v21) = squared (taken (dist (argX m c) (argC m c)) (wrapped (near (dist (argX m c) (argC m c))))) := by
    rw [ops, after_append, after_append, after_append, D_v21, C_v19, B_v16, B_v17, A_v16]
  have ea : after ops (launchContents m c) (Proc.devRef .tc main_arg0) = m ((c.tc : Thread nD τ).loc main_arg0) := by
    rw [ops, after_append, after_append, after_append, D_arg0, C_arg0, B_arg0, A_arg0]
  have eb : after ops (launchContents m c) (Proc.devRef .tc main_arg1) = m ((c.tc : Thread nD τ).loc main_arg1) := by
    rw [ops, after_append, after_append, after_append, D_arg1, C_arg1, B_arg1, A_arg1]
  exact ⟨(h c _).trans e16, (h c _).trans e17, (h c _).trans e21, (h c _).trans ea, (h c _).trans eb⟩

/-- Every run of the reference leaves the arguments unchanged and every semaphore at zero: it has none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2, sem_eq_zero_of_no_sems (by decide) r.2⟩) (run_main m ρ)

end Cert.ReferenceIdeal.Own

end
-- ==== Proof.Own.Least.lean ====
/- The least entry of a row, two ways: folding pairs of a value and an index as the reference does, and the least index among
   the least entries as the kernel's operation is read. Both name the first least entry. -/
module

public import proofs.«01_k».proof.Proof.Gen.KernelIdeal
public import proofs.«01_k».proof.Proof.Own.ReferenceIdeal.Run
public import Idealize.ShloMosaic.PureOps.Ideal
public import Idealize.ShloMosaic.PureOps.Ideal.Laws
public import Idealize.ShloMosaic.PureOps.Reduce
public import Idealize.ShloMosaic.Lib.ValueIdx

@[expose] public section

set_option maxRecDepth 16384

noncomputable section

namespace Cert.Own

open Idealize.ShloMosaic Idealize.ShloMosaic.ValueIdx

/-! ## Pairs of a value and an index, in lexicographic order -/

/-- `p` is before `q`, or equal to it: a smaller value, or the same value and an index no greater. -/
def Upto (p q : EReal × BitVec 32) : Prop := p.1 < q.1 ∨ p.1 = q.1 ∧ p.2.toInt ≤ q.2.toInt

/-- The order on pairs is reflexive. -/
theorem Upto.refl (p : EReal × BitVec 32) : Upto p p := Or.inr ⟨rfl, le_rfl⟩

/-- The order on pairs is transitive. -/
theorem Upto.trans {p q r : EReal × BitVec 32} (h : Upto p q) (g : Upto q r) : Upto p r := by
  rcases h with h | ⟨h, h'⟩ <;> rcases g with g | ⟨g, g'⟩
  · exact Or.inl (h.trans g)
  · exact Or.inl (g ▸ h)
  · exact Or.inl (h ▸ g)
  · exact Or.inr ⟨h.trans g, h'.trans g'⟩

/-- A step that keeps whichever of the two pairs comes first. -/
def Keeps (f : EReal × BitVec 32 → EReal × BitVec 32 → EReal × BitVec 32) : Prop :=
  ∀ p q, (f p q = p ∧ Upto p q) ∨ (f p q = q ∧ Upto q p)

/-- The fold of such a step ends at one of the pairs, and that pair comes before all of them. -/
theorem Keeps.foldl {f : EReal × BitVec 32 → EReal × BitVec 32 → EReal × BitVec 32} (hf : Keeps f) :
    ∀ (l : List (EReal × BitVec 32)) (p : EReal × BitVec 32), l.foldl f p ∈ p :: l ∧ ∀ q ∈ p :: l, Upto (l.foldl f p) q
  | [], p => ⟨List.mem_cons_self, fun q hq => by rw [List.mem_singleton.mp hq]; exact Upto.refl _⟩
  | q :: l, p => by
    obtain ⟨hmem, hle⟩ := hf.foldl l (f p q)
    have hq : f p q ∈ [p, q] := by
      rcases hf p q with ⟨h, _⟩ | ⟨h, _⟩ <;> rw [h] <;> simp
    have hp : Upto (f p q) p ∧ Upto (f p q) q := by
      rcases hf p q with ⟨h, g⟩ | ⟨h, g⟩ <;> rw [h]
      · exact ⟨Upto.refl _, g⟩
      · exact ⟨g, Upto.refl _⟩
    have h0 := hle _ List.mem_cons_self
    rw [List.foldl_cons]
    refine ⟨?_, fun r hr => ?_⟩
    · rcases List.mem_cons.mp hmem with e | h
      · rw [e]
        rcases List.mem_cons.mp hq with e' | h'
        · rw [e']; exact List.mem_cons_self
        · rw [List.mem_singleton.mp h']; exact List.mem_cons_of_mem _ List.mem_cons_self
      · exact List.mem_cons_of_mem _ (List.mem_cons_of_mem _ h)
    · rcases List.mem_cons.mp hr with rfl | hr
      · exact h0.trans hp.1
      rcases List.mem_cons.mp hr with rfl | hr
      · exact h0.trans hp.2
      · exact hle _ (List.mem_cons_of_mem _ hr)

/-- The reference's step keeps the first of two pairs. -/
theorem keeps_reducer : Keeps (Cert.ReferenceIdeal.reducer_argmin_f32_i32 (F := Ideal)) := by
  rintro ⟨a, x⟩ ⟨b, y⟩
  simp only [Cert.ReferenceIdeal.reducer_argmin_f32_i32, Upto, Ideal.cmpf_def, Ideal.cmp, IntOp.ori, IntOp.andi, IntOp.cmpi, Scalar.select]
  rcases lt_trichotomy a b with h | rfl | h
  · left; simp [h, h.ne]
  · by_cases g : x.toInt < y.toInt
    · left; simp [BitVec.slt, g, g.le]
    · right; simp [BitVec.slt, g, not_lt.mp g]
  · right; simp [h, h.ne', h.not_gt]

/-! ## The first least entry of a row -/

/-- `k` is the first index at which `g` is least. -/
def First {n : Nat} (g : Fin n → EReal) (k : Fin n) : Prop := (∀ k', g k ≤ g k') ∧ ∀ k', g k' = g k → k ≤ k'

/-- A column's index as a signed number. -/
theorem toInt_small (k : Fin 1000) : (BitVec.ofNat 32 k.val).toInt = (k.val : Int) := by
  have := k.isLt
  rw [BitVec.toInt_ofNat']
  exact Int.bmod_eq_of_le (by omega) (by omega)

/-- The position a row index and a column index lift to. -/
theorem lift_row {a : Nat} (h : Shape.Reduces (⟨2, ![a, 1000]⟩ : Shape) [1] ⟨1, ![a]⟩) (i : Fin a) (k : Fin 1000) :
    h.lift (ix1 i) k = ix2 i k := by
  funext b; match b with | ⟨0, _⟩ => rfl | ⟨1, _⟩ => rfl

/-- The positions that a reduction over the columns sends to row `i` are those of row `i`. -/
theorem drop_row {a : Nat} (h : Shape.Reduces (⟨2, ![a, 1000]⟩ : Shape) [1] ⟨1, ![a]⟩) (i : Fin a) (y : (⟨2, ![a, 1000]⟩ : Shape).Idx) :
    h.drop y = ix1 i ↔ ∃ k : Fin 1000, y = ix2 i k := by
  constructor
  · intro e
    refine ⟨y 1, ((h.lift_drop y).symm.trans ?_)⟩
    rw [e]; exact lift_row h i (y 1)
  · rintro ⟨k, rfl⟩
    rw [← lift_row h]; exact h.drop_lift _ _

/-- The kernel's operation answers the first least index of the row. -/
theorem reduceIndex_first {a : Nat} (h : Shape.Reduces (⟨2, ![a, 1000]⟩ : Shape) [1] ⟨1, ![a]⟩) (x : (⟨2, ![a, 1000]⟩ : Shape).Idx → EReal)
    (i : Fin a) (k : Fin 1000) (hk : First (fun k => x (ix2 i k)) k) :
    Ideal.reduceIndex .argMin 1 h x (ix1 i) = BitVec.ofNat 32 k.val := by
  unfold Ideal.reduceIndex
  dsimp only
  generalize hS : (Finset.image _ _ : Finset Nat) = S
  have hmem : ∀ n, n ∈ S ↔ ∃ k' : Fin 1000, k'.val = n ∧ ∀ k'', x (ix2 i k') ≤ x (ix2 i k'') := by
    intro n
    rw [← hS]
    simp only [Finset.mem_image, Finset.mem_filter, Finset.mem_univ, true_and, drop_row, reduceCtorEq, if_false, not_lt]
    constructor
    · rintro ⟨y, ⟨⟨k', rfl⟩, hl⟩, rfl⟩
      exact ⟨k', rfl, fun k'' => hl _ ⟨k'', rfl⟩⟩
    · rintro ⟨k', rfl, hl⟩
      refine ⟨ix2 i k', ⟨⟨k', rfl⟩, ?_⟩, rfl⟩
      rintro _ ⟨k'', rfl⟩
      exact hl _
  have hin : k.val ∈ S := (hmem _).mpr ⟨k, rfl, hk.1⟩
  have hmin : S.min = (k.val : WithTop Nat) := by
    refine le_antisymm (Finset.min_le hin) (Finset.le_min fun n hn => ?_)
    obtain ⟨k', rfl, hl⟩ := (hmem n).mp hn
    exact WithTop.coe_le_coe.mpr (hk.2 k' (le_antisymm (hl k) (hk.1 k')))
  rw [hmin]; rfl

/-- The kernel's minimum of a row is its entry at the first least index. -/
theorem minimum_first {a : Nat} (h : Shape.Reduces (⟨2, ![a, 1000]⟩ : Shape) [1] ⟨1, ![a]⟩) (x : FVec Ideal (⟨2, ![a, 1000]⟩ : Shape) .f32)
    (hφ) (hacc) (i : Fin a) (k : Fin 1000) (hk : First (fun k => x (ix2 i k)) k) :
    multiReduction .minimumf [1] ⟨1, ![a]⟩ x 0x7F800000#32 h hφ hacc (ix1 i) = x (ix2 i k) := by
  rw [multiReduction_minimumf_eq_fold]
  refine (h.fold_filter_drop_single _ _ x (ix1 i)).trans ?_
  refine le_antisymm ((Finset.fold_min_le (x (ix2 i k))).mpr (Or.inr ⟨k, Finset.mem_univ _, ?_⟩))
    ((Finset.le_fold_min (x (ix2 i k))).mpr ⟨?_, fun k' _ => ?_⟩)
  · exact le_of_eq (congrArg x (lift_row h i k))
  · exact le_of_le_of_eq le_top (by simp [Ideal.ofBits, Ideal.ieee])
  · exact (hk.1 k').trans (le_of_eq (congrArg x (lift_row h i k')).symm)

/-- The pairs the reference folds for row `i`: one for each column, of the entry and the column's index. -/
theorem mem_fiber {a : Nat} (h' : Shape.ReducesTo (⟨2, ![a, 1000]⟩ : Shape) [1] ⟨1, ![a]⟩) (h : Shape.Reduces (⟨2, ![a, 1000]⟩ : Shape) [1] ⟨1, ![a]⟩)
    (D : (⟨2, ![a, 1000]⟩ : Shape).Idx → EReal) (I : (⟨2, ![a, 1000]⟩ : Shape).Idx → BitVec 32) (i : Fin a) (p : EReal × BitVec 32) :
    p ∈ Host.argReduceFiber D I h' (ix1 i) ↔ ∃ k : Fin 1000, p = (D (ix2 i k), I (ix2 i k)) := by
  simp only [Host.argReduceFiber, List.mem_map, List.mem_filter, List.mem_finRange, true_and, decide_eq_true_eq]
  constructor
  · rintro ⟨n, hn, rfl⟩
    rw [Shape.ReducesTo.drop_eq_drop h' h] at hn
    obtain ⟨k, e⟩ := (drop_row h i _).mp hn
    exact ⟨k, by rw [e]⟩
  · rintro ⟨k, rfl⟩
    refine ⟨(⟨2, ![a, 1000]⟩ : Shape).rowMajor (ix2 i k), ?_, ?_⟩
    · rw [Equiv.symm_apply_apply, Shape.ReducesTo.drop_eq_drop h' h]; exact (drop_row h i _).mpr ⟨k, rfl⟩
    · rw [Equiv.symm_apply_apply]

/-- Folding a row's pairs from the greatest value and index 0 ends at the first least index. -/
theorem fold_first (l : List (EReal × BitVec 32)) (g : Fin 1000 → EReal)
    (hmem : ∀ p, p ∈ l ↔ ∃ k : Fin 1000, p = (g k, BitVec.ofNat 32 k.val)) :
    ∃ k : Fin 1000, (l.foldl (Cert.ReferenceIdeal.reducer_argmin_f32_i32 (F := Ideal)) (⊤, 0#32)).2 = BitVec.ofNat 32 k.val ∧ First g k := by
  obtain ⟨hin, hle⟩ := keeps_reducer.foldl l (⊤, 0#32)
  generalize List.foldl _ ((⊤ : EReal), 0#32) l = p at hin hle
  have hp : ∃ k : Fin 1000, p = (g k, BitVec.ofNat 32 k.val) := by
    rcases List.mem_cons.mp hin with e | e
    · refine ⟨0, ?_⟩
      have u := hle _ (List.mem_cons_of_mem _ ((hmem _).mpr ⟨0, rfl⟩))
      rw [e] at u ⊢
      rcases u with u | ⟨u, _⟩
      · exact absurd u (not_lt.mpr le_top)
      · exact Prod.ext u rfl
    · exact (hmem p).mp e
  obtain ⟨k, rfl⟩ := hp
  have hall : ∀ k' : Fin 1000, g k < g k' ∨ g k = g k' ∧ k ≤ k' := fun k' => by
    rcases hle _ (List.mem_cons_of_mem _ ((hmem _).mpr ⟨k', rfl⟩)) with u | ⟨u, u'⟩
    · exact Or.inl u
    · exact Or.inr ⟨u, by dsimp only at u'; rw [toInt_small, toInt_small] at u'; exact_mod_cast u'⟩
  refine ⟨k, rfl, fun k' => ?_, fun k' e => ?_⟩
  · rcases hall k' with u | ⟨u, _⟩
    · exact u.le
    · exact u.le
  · rcases hall k' with u | ⟨_, u⟩
    · exact absurd e u.ne'
    · exact u

/-- What the reference's fold starts from: the greatest value and index 0. -/
theorem near_init : ((constant Cert.ReferenceIdeal.S_ .f32 0x7F800000#32 : FVec Ideal _ .f32) (Shape.Idx.first Cert.ReferenceIdeal.Gen.h_S_),
    constantI Cert.ReferenceIdeal.S_ 32 0#32 (Shape.Idx.first Cert.ReferenceIdeal.Gen.h_S_)) = ((⊤ : EReal), 0#32) := by
  refine Prod.ext ?_ rfl
  show Ideal.ofBits .f32 0x7F800000#32 = ⊤
  simp [Ideal.ofBits, Ideal.ieee]

/-- Reducing the columns of the distances leaves one entry a row. -/
theorem reduces_rows : Shape.Reduces Cert.ReferenceIdeal.S16384x1000 [1] Cert.ReferenceIdeal.S16384 := by decide

/-- The reference's operation, over rows of any number, answers the first least index of the row. -/
theorem argReduce_first {a : Nat} {u : Shape} (h' : Shape.ReducesTo (⟨2, ![a, 1000]⟩ : Shape) [1] ⟨1, ![a]⟩)
    (h : Shape.Reduces (⟨2, ![a, 1000]⟩ : Shape) [1] ⟨1, ![a]⟩) (hu : 0 < u.numel)
    (D : FVec Ideal (⟨2, ![a, 1000]⟩ : Shape) .f32) (vx : FVec Ideal u .f32) (vy : u.Idx → BitVec 32)
    (hinit : (vx (Shape.Idx.first hu), vy (Shape.Idx.first hu)) = ((⊤ : EReal), 0#32)) (i : Fin a) :
    ∃ k : Fin 1000, Cert.ReferenceIdeal.Own.seconds (F := Ideal) Cert.ReferenceIdeal.reducer_argmin_f32_i32 D (iotaInDim (⟨2, ![a, 1000]⟩ : Shape) 32 1) vx vy h' hu (ix1 i)
      = BitVec.ofNat 32 k.val ∧ First (fun k => D (ix2 i k)) k := by
  unfold Cert.ReferenceIdeal.Own.seconds
  rw [Ideal.argReduce_eq_reduce2, Host.reduce2_eq_foldl_fiber, hinit]
  exact fold_first _ _ fun p => mem_fiber h' h D _ i p

/-- The reference's operation answers the first least index of the row. -/
theorem near_first (D : Vec Ideal Cert.ReferenceIdeal.S16384x1000 .f32) (i : Fin 16384) :
    ∃ k : Fin 1000, Cert.ReferenceIdeal.Own.near D (ix1 i) = BitVec.ofNat 32 k.val ∧ First (fun k => D (ix2 i k)) k :=
  argReduce_first Cert.ReferenceIdeal.Gen.reducesTo_S16384x1000_S16384_d1 reduces_rows Cert.ReferenceIdeal.Gen.h_S_ D
    (constant Cert.ReferenceIdeal.S_ .f32 0x7F800000#32) (constantI Cert.ReferenceIdeal.S_ 32 0#32) near_init i

/-! ## The square root keeps the order -/

/-- The square root squared is the number, on numbers not below zero. -/
theorem sqrt_mul_sqrt {x : EReal} (h : 0 ≤ x) : Ideal.sqrt x * Ideal.sqrt x = x := by
  induction x using EReal.rec with
  | bot => exact absurd h (by simp)
  | top => simp
  | coe r =>
    have hr : 0 ≤ r := by exact_mod_cast h
    rw [Ideal.sqrt_coe, if_neg (not_lt.mpr hr), ← EReal.coe_mul, Real.mul_self_sqrt hr]

/-- The square root keeps the order of numbers not below zero. -/
theorem sqrt_le_sqrt {x y : EReal} (hx : 0 ≤ x) (h : x ≤ y) : Ideal.sqrt x ≤ Ideal.sqrt y := by
  induction x using EReal.rec with
  | bot => exact absurd hx (by simp)
  | top => rw [top_le_iff.mp h]
  | coe r =>
    have hr : 0 ≤ r := by exact_mod_cast hx
    induction y using EReal.rec with
    | bot => exact absurd (hx.trans h) (by simp)
    | top => simp
    | coe s =>
      have hrs : r ≤ s := by exact_mod_cast h
      rw [Ideal.sqrt_coe, Ideal.sqrt_coe, if_neg (not_lt.mpr hr), if_neg (not_lt.mpr (hr.trans hrs))]
      exact_mod_cast Real.sqrt_le_sqrt hrs

/-- The first least index of the square roots is that of the numbers. -/
theorem First.of_sqrt {n : Nat} {g : Fin n → EReal} (hg : ∀ k, 0 ≤ g k) {k : Fin n} (h : First (fun k => Ideal.sqrt (g k)) k) : First g k := by
  have hinj : ∀ {a b : Fin n}, Ideal.sqrt (g a) = Ideal.sqrt (g b) → g a = g b := fun {a b} e => by
    rw [← sqrt_mul_sqrt (hg a), e, sqrt_mul_sqrt (hg b)]
  refine ⟨fun k' => ?_, fun k' e => h.2 k' (congrArg Ideal.sqrt e)⟩
  rcases le_total (g k) (g k') with l | l
  · exact l
  · exact (hinj (le_antisymm (h.1 k') (sqrt_le_sqrt (hg k') l))).le

end Cert.Own

end
-- ==== Proof.Own.KernelIdeal.Results.lean ====
/- The three results after a run: the distances are the stack of the blocks stored, and the nearest centroids and least
   squared distances are the bands of eight blocks written back, flattened. -/
module

public import proofs.«01_k».proof.Proof.Own.KernelIdeal.Run
public import Idealize.ShloMosaic.Lib.Pipeline.Value
public import Idealize.ShloMosaic.Lib.StableHlo.Run

@[expose] public section

set_option maxRecDepth 16384

noncomputable section

namespace Cert.KernelIdeal.Own

open Idealize.ShloMosaic Idealize.ShloMosaic.TcCoe Idealize.SL.Sem
open Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The two bands -/

/-- Eight blocks of 2048 entries, one under another. -/
def band {α : Type} (w : Fin cfg0.N → S1x1x2048.Idx → α) : S8x1x2048.Idx → α := fun i =>
  w (Fin.cast N_0.symm ⟨(i 0).val, (i 0).isLt⟩) (ix3 (n0 := 1) (n1 := 1) (n2 := 2048) ⟨0, by decide⟩ ⟨0, by decide⟩ ⟨(i 2).val, (i 2).isLt⟩)

/-- The band in its row `t` is block `t`. -/
theorem band_at {α : Type} (w : Fin cfg0.N → S1x1x2048.Idx → α) (t : Fin cfg0.N) (i : S8x1x2048.Idx) (y : S1x1x2048.Idx)
    (h0 : (i 0).val = t.val) (h2 : (i 2).val = (y 2).val) : band w i = w t y := by
  have e0 : (Fin.cast N_0.symm ⟨(i 0).val, (i 0).isLt⟩ : Fin cfg0.N) = t := Fin.ext h0
  have e1 : (ix3 (n0 := 1) (n1 := 1) (n2 := 2048) ⟨0, by decide⟩ ⟨0, by decide⟩ ⟨(i 2).val, (i 2).isLt⟩ : S1x1x2048.Idx) = y := by
    funext a
    match a with
    | ⟨0, _⟩ => exact Fin.ext (by have : (y 0).val < 1 := (y 0).isLt; show 0 = (y 0).val; omega)
    | ⟨1, _⟩ => exact Fin.ext (by have : (y 1).val < 1 := (y 1).isLt; show 0 = (y 1).val; omega)
    | ⟨2, _⟩ => exact Fin.ext h2
  unfold band
  rw [e0, e1]

/-- Where point `t`'s block of the nearest centroids lies in its array. -/
theorem place_3 (t : Fin cfg0.N) : win0_3.index t 0 * win0_3.size 0 = t.val ∧ win0_3.xsize (grid0.coords t) 0 = 1
    ∧ win0_3.index t 1 * win0_3.size 1 = 0 ∧ win0_3.xsize (grid0.coords t) 1 = 1
    ∧ win0_3.index t 2 * win0_3.size 2 = 0 ∧ win0_3.xsize (grid0.coords t) 2 = 2048 := by
  rcases fin_N0 t with rfl | rfl | rfl | rfl | rfl | rfl | rfl | rfl <;> decide +kernel
/-- Where point `t`'s block of the least squared distances lies. -/
theorem place_4 (t : Fin cfg0.N) : win0_4.index t 0 * win0_4.size 0 = t.val ∧ win0_4.xsize (grid0.coords t) 0 = 1
    ∧ win0_4.index t 1 * win0_4.size 1 = 0 ∧ win0_4.xsize (grid0.coords t) 1 = 1
    ∧ win0_4.index t 2 * win0_4.size 2 = 0 ∧ win0_4.xsize (grid0.coords t) 2 = 2048 := by
  rcases fin_N0 t with rfl | rfl | rfl | rfl | rfl | rfl | rfl | rfl <;> decide +kernel

/-- What point `t` writes back of the nearest centroids is block `t` of their band. -/
theorem flushed_3 (c : Dev nD) (t : Fin cfg0.N) : (dats m 0 c).flushed 3 t = (win0_3.blk t).view.read (Elt F) (band (nearAt m c)) := by
  show (cfg0.win 3).cut (grid0.coords t) ((dats m 0 c).after 3 t) = _
  rw [after_3]
  funext y
  refine (band_at (nearAt m c) t _ _ ?_ ?_).symm
  · show win0_3.index t 0 * win0_3.size 0 + 1 * (y 0).val = t.val
    have : (y 0).val < win0_3.xsize (grid0.coords t) 0 := (y 0).isLt
    rw [(place_3 t).2.1] at this
    rw [(place_3 t).1]; omega
  · show win0_3.index t 2 * win0_3.size 2 + 1 * (y 2).val = (y 2).val
    rw [(place_3 t).2.2.2.2.1]; omega
/-- Block `t` of a band of least squared distances is what the band is made of there. -/
theorem cut_4 (w : Fin cfg0.N → S1x1x2048.Idx → Elt F .f32) (t : Fin cfg0.N) :
    (cfg0.win 4).cut (grid0.coords t) (w t) = (win0_4.blk t).view.read (Elt F) (band w) := by
  funext y
  refine (band_at w t _ _ ?_ ?_).symm
  · show win0_4.index t 0 * win0_4.size 0 + 1 * (y 0).val = t.val
    have : (y 0).val < win0_4.xsize (grid0.coords t) 0 := (y 0).isLt
    rw [(place_4 t).2.1] at this
    rw [(place_4 t).1]; omega
  · show win0_4.index t 2 * win0_4.size 2 + 1 * (y 2).val = (y 2).val
    rw [(place_4 t).2.2.2.2.1]; omega
/-- What point `t` writes back of the least squared distances is block `t` of their band. -/
theorem flushed_4 (c : Dev nD) (t : Fin cfg0.N) : (dats m 0 c).flushed 4 t = (win0_4.blk t).view.read (Elt F) (band (leastAt m c)) := by
  show (cfg0.win 4).cut (grid0.coords t) ((dats m 0 c).after 4 t) = _
  rw [after_4]
  exact cut_4 (leastAt m c) t

/-- The eight blocks cover the nearest centroids' array. -/
theorem cover_3 (i : S8x1x2048.Idx) : ∃ t : Fin cfg0.N, (cfg0.win 3).flush t = true ∧ i ∈ ((cfg0.win 3).blk t).view.set := by
  refine ⟨Fin.cast N_0.symm ⟨(i 0).val, (i 0).isLt⟩, flush0_3 _, ?_⟩
  generalize ht : (Fin.cast N_0.symm ⟨(i 0).val, (i 0).isLt⟩ : Fin cfg0.N) = t
  have h0 : (i 0).val = t.val := congrArg Fin.val ht
  have h1 : (i 1).val < 1 := (i 1).isLt
  have h2 : (i 2).val < 2048 := (i 2).isLt
  show i ∈ ((View.whole main_v3_1).slice (win0_3.rect t)).set
  rw [View.set_slice_whole, Rect.mem_set_unit]
  obtain ⟨e0, e1, e2, e3, e4, e5⟩ := place_3 t
  intro a
  match a with
  | ⟨0, _⟩ => show win0_3.index t 0 * win0_3.size 0 ≤ (i 0).val ∧ (i 0).val < win0_3.index t 0 * win0_3.size 0 + win0_3.xsize (grid0.coords t) 0
              rw [e0, e1]; omega
  | ⟨1, _⟩ => show win0_3.index t 1 * win0_3.size 1 ≤ (i 1).val ∧ (i 1).val < win0_3.index t 1 * win0_3.size 1 + win0_3.xsize (grid0.coords t) 1
              rw [e2, e3]; omega
  | ⟨2, _⟩ => show win0_3.index t 2 * win0_3.size 2 ≤ (i 2).val ∧ (i 2).val < win0_3.index t 2 * win0_3.size 2 + win0_3.xsize (grid0.coords t) 2
              rw [e4, e5]; omega
/-- The eight blocks cover the least squared distances' array. -/
theorem cover_4 (i : S8x1x2048.Idx) : ∃ t : Fin cfg0.N, (cfg0.win 4).flush t = true ∧ i ∈ ((cfg0.win 4).blk t).view.set := by
  refine ⟨Fin.cast N_0.symm ⟨(i 0).val, (i 0).isLt⟩, flush0_4 _, ?_⟩
  generalize ht : (Fin.cast N_0.symm ⟨(i 0).val, (i 0).isLt⟩ : Fin cfg0.N) = t
  have h0 : (i 0).val = t.val := congrArg Fin.val ht
  have h1 : (i 1).val < 1 := (i 1).isLt
  have h2 : (i 2).val < 2048 := (i 2).isLt
  show i ∈ ((View.whole main_v3_2).slice (win0_4.rect t)).set
  rw [View.set_slice_whole, Rect.mem_set_unit]
  obtain ⟨e0, e1, e2, e3, e4, e5⟩ := place_4 t
  intro a
  match a with
  | ⟨0, _⟩ => show win0_4.index t 0 * win0_4.size 0 ≤ (i 0).val ∧ (i 0).val < win0_4.index t 0 * win0_4.size 0 + win0_4.xsize (grid0.coords t) 0
              rw [e0, e1]; omega
  | ⟨1, _⟩ => show win0_4.index t 1 * win0_4.size 1 ≤ (i 1).val ∧ (i 1).val < win0_4.index t 1 * win0_4.size 1 + win0_4.xsize (grid0.coords t) 1
              rw [e2, e3]; omega
  | ⟨2, _⟩ => show win0_4.index t 2 * win0_4.size 2 ≤ (i 2).val ∧ (i 2).val < win0_4.index t 2 * win0_4.size 2 + win0_4.xsize (grid0.coords t) 2
              rw [e4, e5]; omega

/-- The nearest centroids' array after the last point. -/
theorem final_3 (c : Dev nD) : (dats m 0 c).arrAt 3 cfg0.N = band (nearAt m c) :=
  (dats m 0 c).arrAt_eq_of_cover 3 (band (nearAt m c)) (fun t _ => flushed_3 m c t) cover_3
/-- The least squared distances' array after the last point. -/
theorem final_4 (c : Dev nD) : (dats m 0 c).arrAt 4 cfg0.N = band (leastAt m c) :=
  (dats m 0 c).arrAt_eq_of_cover 4 (band (leastAt m c)) (fun t _ => flushed_4 m c t) cover_4

/-! ## The results -/

/-- The windows' arrays are different buffers. -/
theorem arr_inj : Function.Injective (Pipeline.arrRef spec0) := by decide

/-- A core's buffers when the region is left, at the three results of the call. -/
theorem Vend_v3_0 (c : Dev nD) : Vend m c (Proc.devRef .tc main_v3_0) = (stack (blocks m c) : Buf (Elt F) ((c.tc : Thread nD τ).loc main_v3_0)) :=
  (Pipeline.withArrays_of_ne spec0 c _ _ main_v3_0 (by decide)).trans ((Pipeline.withR_of_mem _ Rs c (Gs m c) main_v3_0 (by decide)).trans (Gs_v3_0 m c))
theorem Vend_v3_1 (c : Dev nD) : Vend m c (Proc.devRef .tc main_v3_1) = (band (nearAt m c) : Buf (Elt F) ((c.tc : Thread nD τ).loc main_v3_1)) :=
  (Pipeline.withArrays_arr spec0 arr_inj c _ _ 3).trans (final_3 m c)
theorem Vend_v3_2 (c : Dev nD) : Vend m c (Proc.devRef .tc main_v3_2) = (band (leastAt m c) : Buf (Elt F) ((c.tc : Thread nD τ).loc main_v3_2)) :=
  (Pipeline.withArrays_arr spec0 arr_inj c _ _ 4).trans (final_4 m c)

/-- The lines after the region leave the distances alone and flatten the two bands. -/
theorem tail_v3_0 (W : Valuation τ sig (Elt F)) : StableHlo.after (List.flatten [hostOps1]) W (Proc.devRef .tc main_v3_0) = W (Proc.devRef .tc main_v3_0) := by
  simp only [List.flatten_cons, List.flatten_nil, List.append_nil]; after_results <;> rfl
theorem tail_v4 (W : Valuation τ sig (Elt F)) : StableHlo.after (List.flatten [hostOps1]) W (Proc.devRef .tc main_v4)
    = shapeCast S16384 (W (Proc.devRef .tc main_v3_1) : Vec F S8x1x2048 .i32) shapeCasts_S8x1x2048_S16384 := by
  simp only [List.flatten_cons, List.flatten_nil, List.append_nil]; after_results <;> rfl
theorem tail_v5 (W : Valuation τ sig (Elt F)) : StableHlo.after (List.flatten [hostOps1]) W (Proc.devRef .tc main_v5)
    = shapeCast S16384 (W (Proc.devRef .tc main_v3_2) : Vec F S8x1x2048 .f32) shapeCasts_S8x1x2048_S16384 := by
  simp only [List.flatten_cons, List.flatten_nil, List.append_nil]; after_results <;> rfl

/-- Every run of the kernel ends with the three results at what the points stored and the arguments unchanged. -/
theorem run_results : θ_run defs (onTc (τ := τ) (main (F := F))) ⟨m, fun _ => 0, ρ⟩ (fun r => ∀ c : Dev nD,
      r.2.mem ((c.tc : Thread nD τ).loc main_v3_0) = stack (blocks m c)
      ∧ r.2.mem ((c.tc : Thread nD τ).loc main_v4) = shapeCast S16384 (band (nearAt m c)) shapeCasts_S8x1x2048_S16384
      ∧ r.2.mem ((c.tc : Thread nD τ).loc main_v5) = shapeCast S16384 (band (leastAt m c)) shapeCasts_S8x1x2048_S16384
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_, ?_⟩) (run_main m ρ)
  · rw [(h.1 c).2 main_v3_0 (by decide), tail_v3_0, Vend_v3_0]
  · rw [(h.1 c).2 main_v4 (by decide), tail_v4, Vend_v3_1]
  · rw [(h.1 c).2 main_v5 (by decide), tail_v5, Vend_v3_2]
  · exact ((h.1 c).1 0).trans (((dats m 0 c).arrAt_in 0 rfl _).trans ((A_eq m c 0).trans (V_main_arg0 m c)))
  · exact ((h.1 c).1 1).trans (((dats m 0 c).arrAt_in 1 rfl _).trans ((A_eq m c 1).trans (V_main_arg1 m c)))

/-! ## The input blocks -/

/-- Where point `t`'s blocks of the three inputs lie in their arrays. -/
theorem place_0 (t : Fin cfg0.N) : win0_0.index t 0 * win0_0.size 0 = 2048 * t.val ∧ win0_0.index t 1 * win0_0.size 1 = 0 := by
  rcases fin_N0 t with rfl | rfl | rfl | rfl | rfl | rfl | rfl | rfl <;> decide +kernel
theorem place_1 (t : Fin cfg0.N) : win0_1.index t 0 * win0_1.size 0 = 0 ∧ win0_1.index t 1 * win0_1.size 1 = 0 := by
  rcases fin_N0 t with rfl | rfl | rfl | rfl | rfl | rfl | rfl | rfl <;> decide +kernel
theorem place_2 (t : Fin cfg0.N) : win0_2.index t 0 * win0_2.size 0 = 0 ∧ win0_2.index t 1 * win0_2.size 1 = 0 := by
  rcases fin_N0 t with rfl | rfl | rfl | rfl | rfl | rfl | rfl | rfl <;> decide +kernel

/-- The two arguments at launch. -/
abbrev argX (c : Dev nD) : Vec F S16384x16 .f32 := m ((c.tc : Thread nD τ).loc main_arg0)
abbrev argC (c : Dev nD) : Vec F S1000x16 .f32 := m ((c.tc : Thread nD τ).loc main_arg1)

/-- Point `t`'s block of the points: the rows from `2048 t` on. -/
theorem block_0 (c : Dev nD) (t : Fin cfg0.N) (r : Fin 2048) (f : Fin 16) (i : Fin 16384) (hi : i.val = 2048 * t.val + r.val) :
    (iblk m c 0 t : Vec F S2048x16 .f32) (ix2 r f) = argX m c (ix2 i f) := by
  show V m c main_arg0 _ = _
  rw [V_main_arg0]
  refine congrArg (argX m c) (funext fun a => Fin.ext ?_)
  match a with
  | ⟨0, _⟩ => show win0_0.index t 0 * win0_0.size 0 + 1 * r.val = i.val
              rw [(place_0 t).1]; omega
  | ⟨1, _⟩ => show win0_0.index t 1 * win0_0.size 1 + 1 * f.val = f.val
              rw [(place_0 t).2]; omega
/-- Every point's block of the centroids: all of them. -/
theorem block_1 (c : Dev nD) (t : Fin cfg0.N) (k : Fin 1000) (f : Fin 16) : (iblk m c 1 t : Vec F S1000x16 .f32) (ix2 k f) = argC m c (ix2 k f) := by
  show V m c main_arg1 _ = _
  rw [V_main_arg1]
  refine congrArg (argC m c) (funext fun a => Fin.ext ?_)
  match a with
  | ⟨0, _⟩ => show win0_1.index t 0 * win0_1.size 0 + 1 * k.val = k.val
              rw [(place_1 t).1]; omega
  | ⟨1, _⟩ => show win0_1.index t 1 * win0_1.size 1 + 1 * f.val = f.val
              rw [(place_1 t).2]; omega
/-- The centroids' squared lengths, as the host computes them. -/
def norms (C : Vec F S1000x16 .f32) : Vec F S1x1000 .f32 :=
  broadcastInDim S1x1000 ![1] bcast_S1000_S1x1000_1 (Host.reduceAdd (mulf C C) (constant S_ .f32 0x00000000#32) reducesTo_S1000x16_S1000_d1 h_S_)
/-- The region finds them in the third input's array. -/
theorem V_main_v2 (c : Dev nD) : V m c main_v2 = norms (argC m c) := by
  unfold V V0
  simp only [List.flatten_cons, List.flatten_nil, List.append_nil]
  after_results <;> rfl
/-- Every point's block of the squared lengths: all of them. -/
theorem block_2 (c : Dev nD) (t : Fin cfg0.N) (k : Fin 1000) : (iblk m c 2 t : Vec F S1x1000 .f32) (ix2 0 k) = norms (argC m c) (ix2 0 k) := by
  show V m c main_v2 _ = _
  rw [V_main_v2]
  refine congrArg (norms (argC m c)) (funext fun a => Fin.ext ?_)
  match a with
  | ⟨0, _⟩ => show win0_2.index t 0 * win0_2.size 0 + 1 * 0 = 0
              rw [(place_2 t).1]
  | ⟨1, _⟩ => show win0_2.index t 1 * win0_2.size 1 + 1 * k.val = k.val
              rw [(place_2 t).2]; omega

end Cert.KernelIdeal.Own

end
-- ==== Proof.Own.Squares.lean ====
/- The squared distances, entry by entry: the kernel's block and the reference's array hold the same number at the same
   point and centroid. -/
module

public import proofs.«01_k».proof.Proof.Own.KernelIdeal.Results
public import proofs.«01_k».proof.Proof.Own.ReferenceIdeal.Run
public import Idealize.ShloMosaic.Lib.Pointwise

@[expose] public section

set_option maxRecDepth 16384

noncomputable section

namespace Cert.Own

open Idealize.ShloMosaic Idealize.ShloMosaic.TcCoe

/-- The squared distance of two vectors, clamped below at zero, from their squared lengths and their product. -/
def gap (x y : Fin 16 → EReal) : EReal :=
  max ((∑ f, x f * x f) + (∑ f, y f * y f) - Ideal.ofBits .f32 0x40000000#32 * ∑ f, x f * y f) 0

/-- It is not below zero. -/
theorem gap_nonneg (x y : Fin 16 → EReal) : 0 ≤ gap x y := le_max_right _ _

/-- The reference's squared distance of point `i` and centroid `k`. -/
theorem sq_apply (X : Vec Ideal Cert.ReferenceIdeal.S16384x16 .f32) (C : Vec Ideal Cert.ReferenceIdeal.S1000x16 .f32) (i : Fin 16384) (k : Fin 1000) :
    Cert.ReferenceIdeal.Own.sq X C (ValueIdx.ix2 i k) = gap (fun f => X (ValueIdx.ix2 i f)) (fun f => C (ValueIdx.ix2 k f)) := by
  unfold gap
  simp only [← ix2_eq_valueIdx]
  pointwise [Cert.ReferenceIdeal.Own.sq]

/-- A centroid's squared length, as the host computes it for the kernel. -/
theorem norms_apply (C : Vec Ideal Cert.KernelIdeal.S1000x16 .f32) (k : Fin 1000) :
    Cert.KernelIdeal.Own.norms C (ValueIdx.ix2 0 k) = ∑ f, C (ValueIdx.ix2 k f) * C (ValueIdx.ix2 k f) := by
  simp only [← ix2_eq_valueIdx]
  pointwise [Cert.KernelIdeal.Own.norms]

/-- The kernel's squared distance of a block's row `r` and centroid `k`. -/
theorem pay_apply (v4 : Vec Ideal Cert.KernelIdeal.S2048x16 .f32) (v5 : Vec Ideal Cert.KernelIdeal.S1000x16 .f32) (v6 : Vec Ideal Cert.KernelIdeal.S1x1000 .f32)
    (r : Fin 2048) (k : Fin 1000) (h : v6 (ValueIdx.ix2 0 k) = ∑ f, v5 (ValueIdx.ix2 k f) * v5 (ValueIdx.ix2 k f)) :
    Cert.KernelIdeal.Gen.k0_pay1 v4 v5 v6 (ValueIdx.ix2 r k) = gap (fun f => v4 (ValueIdx.ix2 r f)) (fun f => v5 (ValueIdx.ix2 k f)) := by
  unfold gap
  rw [← h]
  simp only [← ix2_eq_valueIdx]
  pointwise [Cert.KernelIdeal.Gen.k0_pay1]

end Cert.Own

end
-- ==== Proof.Own.Taken.lean ====
/- The reference's read of the distances at the nearest centroid: the index is non-negative and below a thousand, so what is
   read is the entry at that index. -/
module

public import proofs.«01_k».proof.Proof.Own.ReferenceIdeal.Run
public import Idealize.ShloMosaic.Lib.Pointwise
public import Idealize.ShloMosaic.Lib.Routing.Ops

@[expose] public section

set_option maxRecDepth 16384

noncomputable section

namespace Cert.Own

open Idealize.ShloMosaic Idealize.ShloMosaic.TcCoe
open Cert.ReferenceIdeal Cert.ReferenceIdeal.Own

/-- A column's index is not below zero, so it is left as it is. -/
theorem wrapped_apply (I : Vec Ideal S16384 .i32) (i : Fin 16384) (k : Fin 1000) (h : I (ix1 i) = BitVec.ofNat 32 k.val) :
    wrapped (F := Ideal) I (ix3 i 0 0) = BitVec.ofNat 32 k.val := by
  pointwise [wrapped]
  rw [h]
  have hlt : IntOp.cmpi CmpIPredicate.slt (BitVec.ofNat 32 k.val) 0#32 = 0#1 := by
    have := StableHlo.Predicate.toInt_ofNat_small k.val (by have := k.isLt; omega)
    show BitVec.ofBool (decide ((BitVec.ofNat 32 k.val).toInt < 0)) = 0#1
    rw [this, decide_eq_false (by omega)]; rfl
  rw [hlt]; rfl

/-- A column's index is inside. -/
theorem inside_apply (J : Vec Ideal S16384x1x1 .i32) (i : Fin 16384) (k : Fin 1000) (h : J (ix3 i 0 0) = BitVec.ofNat 32 k.val) :
    inside (F := Ideal) J (ix2 i 0) = 1#1 := by
  pointwise [inside]
  rw [Finset.univ_unique, Finset.fold_singleton]
  show IntOp.andi (IntOp.andi (IntOp.cmpi .sge (J (ix3 i 0 0)) 0#32) (IntOp.cmpi .sle (J (ix3 i 0 0)) 999#32)) 1#1 = 1#1
  have := k.isLt
  have e := StableHlo.Predicate.toInt_ofNat_small k.val (by omega)
  have h0 : IntOp.cmpi CmpIPredicate.sge (BitVec.ofNat 32 k.val) 0#32 = 1#1 := by
    simp [IntOp.cmpi, BitVec.sle, e]
  have h1 : IntOp.cmpi CmpIPredicate.sle (BitVec.ofNat 32 k.val) 999#32 = 1#1 := by
    show BitVec.ofBool (decide ((BitVec.ofNat 32 k.val).toInt ≤ 999)) = 1#1
    rw [e, decide_eq_true (by omega)]; rfl
  rw [h, h0, h1]; rfl

/-- The square of a column, at an entry. -/
theorem squared_apply (T : Vec Ideal S16384x1 .f32) (i : Fin 16384) :
    squared (F := Ideal) T (ix1 i) = T (ix2 i 0) * T (ix2 i 0) := by
  pointwise [squared]

/-- The reference's read of one entry a row. -/
abbrev rowRead : GatherDims S16384x1000 S16384x1x1 S16384x1 := Cert.ReferenceIdeal.gather_S16384x1000_S16384x1x1_S16384x1_n_1_0_0_1_2_11

/-- The position of the start index that row `i` of the result reads. -/
theorem start_place (i : Fin 16384) (n : Fin rowRead.startIndexMap.length) : rowRead.siIdx (ix2 i 0) n = ix3 i 0 0 := by
  funext b
  match b with
  | ⟨0, _⟩ => exact Fin.ext rfl
  | ⟨1, _⟩ => exact Fin.ext rfl
  | ⟨2, _⟩ => exact Fin.ext (by have : n.val < 1 := n.isLt; show n.val = 0; omega)

/-- Row `i` of the result reads row `i` of the operand at its start index. -/
theorem gather_apply (D : Vec Ideal S16384x1000 .f32) (J : Vec Ideal S16384x1x1 .i32) (i : Fin 16384) (k : Fin 1000)
    (h : J (ix3 i 0 0) = BitVec.ofNat 32 k.val) : Host.gather rowRead D J (ix2 i 0) = D (ix2 i k) := by
  unfold Host.gather
  refine congrArg D (funext fun a => Fin.ext ?_)
  match a with
  | ⟨0, _⟩ =>
    show rowRead.start (ix2 i 0) J 0 + rowRead.batchCoord (ix2 i 0) 0 + rowRead.offCoord (ix2 i 0) 0 = i.val
    have e0 : rowRead.start (ix2 i 0) J 0 = 0 := by unfold GatherDims.start; exact dif_neg (by decide)
    have e1 : rowRead.batchCoord (ix2 i 0) 0 = i.val := rfl
    have e2 : rowRead.offCoord (ix2 i 0) 0 = 0 := rowRead.offCoord_eq_zero _ _ (by decide)
    rw [e0, e1, e2]; omega
  | ⟨1, _⟩ =>
    show rowRead.start (ix2 i 0) J 1 + rowRead.batchCoord (ix2 i 0) 1 + rowRead.offCoord (ix2 i 0) 1 = k.val
    have e0 : rowRead.start (ix2 i 0) J 1 = k.val := by
      unfold GatherDims.start
      refine (dif_pos (show (1 : Fin 2) ∈ rowRead.startIndexMap from List.mem_singleton.mpr rfl)).trans ?_
      rw [start_place, h, StableHlo.Predicate.toInt_ofNat_small k.val (by have := k.isLt; omega)]
      have := k.isLt
      show min ((k.val : Int)).toNat (1000 - 1) = k.val
      omega
    have e1 : rowRead.batchCoord (ix2 i 0) 1 = 0 := rowRead.batchCoord_eq_zero _ _ (by decide)
    have e2 : rowRead.offCoord (ix2 i 0) 1 = 0 := rowRead.offCoord_eq_zero _ _ (by decide)
    rw [e0, e1, e2]; omega

/-- A choice reads its first arm where its condition is one. -/
theorem select_one {s : Shape} {α : Type} (b : IVec s 1) (x y : s.Idx → α) (j : s.Idx) (h : b j = 1#1) : select b x y j = x j := by
  unfold select
  rw [h]; rfl

/-- Where row `i`'s index is column `k`'s, the reference's third result is the square of the entry there. -/
theorem third_apply (D : Vec Ideal S16384x1000 .f32) (I : Vec Ideal S16384 .i32) (i : Fin 16384) (k : Fin 1000) (h : I (ix1 i) = BitVec.ofNat 32 k.val) :
    squared (F := Ideal) (taken D (wrapped (F := Ideal) I)) (ix1 i) = D (ix2 i k) * D (ix2 i k) := by
  have hJ := wrapped_apply I i k h
  have ht : taken D (wrapped (F := Ideal) I) (ix2 i 0) = D (ix2 i k) := by
    unfold taken
    exact (select_one _ _ _ _ (inside_apply _ i k hJ)).trans (gather_apply D _ i k hJ)
  rw [squared_apply, ht]

end Cert.Own

end
-- ==== Proof.Own.Equation.lean ====
/- The equations: each of the kernel's three results is the reference's, over the extended reals. -/
module

public import proofs.«01_k».proof.Proof.Own.Least
public import proofs.«01_k».proof.Proof.Own.Squares
public import proofs.«01_k».proof.Proof.Own.Taken

@[expose] public section

set_option maxRecDepth 16384

noncomputable section

namespace Cert.Own

open Idealize.ShloMosaic Idealize.ShloMosaic.TcCoe
open Cert.KernelIdeal Cert.KernelIdeal.Gen Cert.KernelIdeal.Own

/-! ## Layout -/

/-- A block with a unit axis in front, read at a row and a column. -/
theorem addUnit_apply {α : Type} (w : S2048x1000.Idx → α) (r : Fin 2048) (k : Fin 1000) :
    shapeCast S1x2048x1000 w shapeCasts_S2048x1000_S1x2048x1000 (ix3 0 r k) = w (ix2 r k) := by
  pointwise []

/-- A row with two unit axes in front, read at an entry. -/
theorem addUnits_apply {α : Type} (w : S2048.Idx → α) (r : Fin 2048) :
    shapeCast S1x1x2048 w shapeCasts_S2048_S1x1x2048 (ix3 0 0 r) = w (ix1 r) := by
  pointwise []

/-- Eight rows of 2048 flattened, read at an entry. -/
theorem flatten_apply {α : Type} (w : S8x1x2048.Idx → α) (t : Fin 8) (r : Fin 2048) (i : Fin 16384) (hi : i.val = 2048 * t.val + r.val) :
    shapeCast S16384 w shapeCasts_S8x1x2048_S16384 (ix1 i) = w (ix3 t 0 r) := by
  pointwise []
  have hr := r.isLt
  refine congrArg w ?_
  rw [show (⟨i.val / 2048, _⟩ : Fin 8) = t from Fin.ext (by show i.val / 2048 = t.val; omega),
    show (⟨i.val % 2048, _⟩ : Fin 2048) = r from Fin.ext (by show i.val % 2048 = r.val; omega)]

/-! ## One entry -/

section
variable (m : (ℓ : Loc nD τ sig) → Buf (Elt Ideal) ℓ) (c : Dev nD)

/-- A point's blocks of the points, the centroids and their squared lengths. -/
abbrev blkX (t : Fin cfg0.N) : FVec Ideal S2048x16 .f32 := iblk m c 0 t
abbrev blkC (t : Fin cfg0.N) : FVec Ideal S1000x16 .f32 := iblk m c 1 t
abbrev blkN (t : Fin cfg0.N) : FVec Ideal S1x1000 .f32 := iblk m c 2 t
/-- The squared distances a point computes. -/
abbrev gaps (t : Fin cfg0.N) : FVec Ideal S2048x1000 .f32 := k0_pay1 (F := Ideal) (blkX m c t) (blkC m c t) (blkN m c t)
/-- The reference's. -/
abbrev refGaps : FVec Ideal S16384x1000 .f32 := Cert.ReferenceIdeal.Own.sq (F := Ideal) (argX m c) (argC m c)
/-- The reference's distances. -/
abbrev refDist : FVec Ideal S16384x1000 .f32 := Cert.ReferenceIdeal.Own.dist (F := Ideal) (argX m c) (argC m c)

/-- Row `r` of point `t`'s squared distances is row `2048 t + r` of the reference's. -/
theorem gaps_apply (t : Fin cfg0.N) (r : Fin 2048) (k : Fin 1000) (i : Fin 16384) (hi : i.val = 2048 * t.val + r.val) :
    gaps m c t (ValueIdx.ix2 r k) = refGaps m c (ValueIdx.ix2 i k) := by
  have hC : (fun f => blkC m c t (ValueIdx.ix2 k f)) = fun f => argC m c (ValueIdx.ix2 k f) := funext fun f => block_1 m c t k f
  have hX : (fun f => blkX m c t (ValueIdx.ix2 r f)) = fun f => argX m c (ValueIdx.ix2 i f) := funext fun f => block_0 m c t r f i hi
  have h1 : ∀ f, blkC m c t (ValueIdx.ix2 k f) = argC m c (ValueIdx.ix2 k f) := fun f => block_1 m c t k f
  have h2 : blkN m c t (ValueIdx.ix2 0 k) = norms (F := Ideal) (argC m c) (ValueIdx.ix2 0 k) := block_2 m c t k
  have hn : blkN m c t (ValueIdx.ix2 0 k) = ∑ f, blkC m c t (ValueIdx.ix2 k f) * blkC m c t (ValueIdx.ix2 k f) := by
    rw [h2, norms_apply]
    exact Finset.sum_congr rfl fun f _ => by rw [h1 f]
  refine (pay_apply (blkX m c t) (blkC m c t) (blkN m c t) r k hn).trans ?_
  rw [hC, hX]
  exact (sq_apply (argX m c) (argC m c) i k).symm

/-- The root of an array, at an entry. -/
theorem root_apply {s : Shape} (x : FVec Ideal s .f32) (j : s.Idx) : Host.sqrt x j = Ideal.sqrt (x j) := rfl
/-- The reference's distance is the root of its squared distance. -/
theorem refDist_apply (j : S16384x1000.Idx) : refDist m c j = Ideal.sqrt (refGaps m c j) := by
  unfold refDist Cert.ReferenceIdeal.Own.dist
  exact root_apply _ j

/-- The reference's squared distances are not below zero. -/
theorem refGaps_nonneg (i : Fin 16384) (k : Fin 1000) : 0 ≤ refGaps m c (ValueIdx.ix2 i k) := by
  unfold refGaps
  rw [sq_apply]
  exact gap_nonneg _ _

/-- The reference's second result at point `i` is the first centroid at the least squared distance. -/
theorem refNear_apply (i : Fin 16384) : ∃ k : Fin 1000, Cert.ReferenceIdeal.Own.near (F := Ideal) (refDist m c) (ValueIdx.ix1 i) = BitVec.ofNat 32 k.val
    ∧ First (fun k => refGaps m c (ValueIdx.ix2 i k)) k := by
  obtain ⟨k, hk, hf⟩ := near_first (refDist m c) i
  have e : (fun k => refDist m c (ValueIdx.ix2 i k)) = fun k => Ideal.sqrt (refGaps m c (ValueIdx.ix2 i k)) := funext fun k => refDist_apply m c _
  rw [e] at hf
  exact ⟨k, hk, First.of_sqrt (g := fun k => refGaps m c (ValueIdx.ix2 i k)) (fun k => refGaps_nonneg m c i k) hf⟩

/-- So it is that of the point's block. -/
theorem first_gaps (t : Fin cfg0.N) (r : Fin 2048) (i : Fin 16384) (hi : i.val = 2048 * t.val + r.val) {k : Fin 1000}
    (h : First (fun k => refGaps m c (ValueIdx.ix2 i k)) k) : First (fun k => gaps m c t (ValueIdx.ix2 r k)) k := by
  have e : (fun k => gaps m c t (ValueIdx.ix2 r k)) = fun k => refGaps m c (ValueIdx.ix2 i k) :=
    funext fun k => gaps_apply m c t r k i hi
  rw [e]; exact h

/-! ## What a point stores, at an entry -/

/-- The distances stored: the roots. -/
theorem distAt_apply (t : Fin cfg0.N) (r : Fin 2048) (k : Fin 1000) :
    distAt m c t (ix3 0 r k) = Ideal.sqrt (gaps m c t (ValueIdx.ix2 r k)) := by
  unfold distAt k0_pay2
  refine (addUnit_apply _ r k).trans ?_
  rw [ix2_eq_valueIdx]; rfl

/-- The nearest centroids stored: the first least index of each row. -/
theorem nearAt_apply (t : Fin cfg0.N) (r : Fin 2048) (k : Fin 1000) (h : First (fun k => gaps m c t (ValueIdx.ix2 r k)) k) :
    nearAt m c t (ix3 0 0 r) = BitVec.ofNat 32 k.val := by
  unfold nearAt k0_pay3
  refine (addUnits_apply _ r).trans ?_
  rw [ix1_eq_valueIdx]
  exact reduceIndex_first reduces_S2048x1000_S2048 (gaps m c t) r k h

/-- The least squared distances stored: the entry at that index. -/
theorem leastAt_apply (t : Fin cfg0.N) (r : Fin 2048) (k : Fin 1000) (h : First (fun k => gaps m c t (ValueIdx.ix2 r k)) k) :
    leastAt m c t (ix3 0 0 r) = gaps m c t (ValueIdx.ix2 r k) := by
  unfold leastAt k0_pay4
  refine (addUnits_apply _ r).trans ?_
  rw [ix1_eq_valueIdx]
  exact minimum_first reduces_S2048x1000_S2048 (gaps m c t) _ _ r k h

/-! ## The three results -/

/-- The row block a point is in, and its row there. -/
theorem split_row (i : Fin 16384) : ∃ (t : Fin cfg0.N) (r : Fin 2048), i.val = 2048 * t.val + r.val :=
  ⟨Fin.cast N_0.symm ⟨i.val / 2048, by have := i.isLt; omega⟩, ⟨i.val % 2048, by omega⟩, by
    show i.val = 2048 * (i.val / 2048) + i.val % 2048; omega⟩

/-- An entry of a flattened band. -/
theorem band_flat {α : Type} (w : Fin cfg0.N → S1x1x2048.Idx → α) (t : Fin cfg0.N) (r : Fin 2048) (i : Fin 16384) (hi : i.val = 2048 * t.val + r.val) :
    shapeCast S16384 (band w) shapeCasts_S8x1x2048_S16384 (ix1 i) = w t (ix3 0 0 r) :=
  (flatten_apply (band w) (Fin.cast N_0 t) r i hi).trans (band_at w t _ _ rfl rfl)

/-- The distances. -/
theorem dist_eq : (stack (blocks m c) : S16384x1000.Idx → EReal) = refDist m c := by
  funext y
  obtain ⟨i, k, rfl⟩ : ∃ (i : Fin 16384) (k : Fin 1000), y = ValueIdx.ix2 i k := ⟨y 0, y 1, by
    funext a; match a with | ⟨0, _⟩ => rfl | ⟨1, _⟩ => rfl⟩
  obtain ⟨t, r, hi⟩ := split_row i
  refine (stack_at (blocks m c) (Fin.cast N_0 t) _ r k hi rfl).trans ?_
  rw [← ix3_eq_valueIdx]
  refine (distAt_apply m c t r k).trans ?_
  rw [gaps_apply m c t r k i hi]
  exact (refDist_apply m c _).symm

/-- The nearest centroids. -/
theorem near_eq : shapeCast S16384 (band (nearAt m c)) shapeCasts_S8x1x2048_S16384 = Cert.ReferenceIdeal.Own.near (F := Ideal) (refDist m c) := by
  funext y
  obtain ⟨i, rfl⟩ : ∃ i : Fin 16384, y = ValueIdx.ix1 i := ⟨y 0, by funext a; match a with | ⟨0, _⟩ => rfl⟩
  obtain ⟨t, r, hi⟩ := split_row i
  obtain ⟨k, hk, hf⟩ := refNear_apply m c i
  rw [hk, ← ix1_eq_valueIdx]
  exact (band_flat (nearAt m c) t r i hi).trans (nearAt_apply m c t r k (first_gaps m c t r i hi hf))

/-- The inertias. -/
theorem least_eq : (shapeCast S16384 (band (leastAt m c)) shapeCasts_S8x1x2048_S16384 : S16384.Idx → EReal)
    = Cert.ReferenceIdeal.Own.squared (F := Ideal) (Cert.ReferenceIdeal.Own.taken (F := Ideal) (refDist m c)
        (Cert.ReferenceIdeal.Own.wrapped (F := Ideal) (Cert.ReferenceIdeal.Own.near (F := Ideal) (refDist m c)))) := by
  funext y
  obtain ⟨i, rfl⟩ : ∃ i : Fin 16384, y = ValueIdx.ix1 i := ⟨y 0, by funext a; match a with | ⟨0, _⟩ => rfl⟩
  obtain ⟨t, r, hi⟩ := split_row i
  obtain ⟨k, hk, hf⟩ := refNear_apply m c i
  rw [← ix1_eq_valueIdx] at hk ⊢
  refine (band_flat (leastAt m c) t r i hi).trans ?_
  refine (leastAt_apply m c t r k (first_gaps m c t r i hi hf)).trans ?_
  rw [third_apply (refDist m c) _ i k hk, gaps_apply m c t r k i hi, ix2_eq_valueIdx, refDist_apply]
  exact (sqrt_mul_sqrt (refGaps_nonneg m c i k)).symm

end

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Own.Kernel.Run
public import proofs.«01_k».proof.Proof.Own.KernelIdeal.Run
public import proofs.«01_k».proof.Proof.Own.ReferenceIdeal.Run
public import proofs.«01_k».proof.Proof.Own.Equation
public import Idealize.ShloMosaic.Adequacy
public import Idealize.ShloMosaic.Init

@[expose] public section

noncomputable section

namespace Cert.Proof

open Idealize.ShloMosaic Idealize.SL.Sem Cert.Kernel

/-- The kernel and the reference compute the same three results over the extended reals, and leave the arguments unchanged. -/
theorem algebraic : Cert.algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' _ hargs
  refine ⟨fun c => Cert.Own.refDist m c, fun c => Cert.ReferenceIdeal.Own.near (F := Ideal) (Cert.Own.refDist m c),
    fun c => Cert.ReferenceIdeal.Own.squared (F := Ideal) (Cert.ReferenceIdeal.Own.taken (F := Ideal) (Cert.Own.refDist m c)
      (Cert.ReferenceIdeal.Own.wrapped (F := Ideal) (Cert.ReferenceIdeal.Own.near (F := Ideal) (Cert.Own.refDist m c)))), ?_, ?_⟩
  · refine (θ_run _ _ _).mono (fun r h c => ?_) (Cert.KernelIdeal.Own.run_results m g)
    obtain ⟨h0, h1, h2, h3, h4⟩ := h c
    exact ⟨h0.trans (Cert.Own.dist_eq m c), h1.trans (Cert.Own.near_eq m c), h2.trans (Cert.Own.least_eq m c), h3, h4⟩
  · refine (θ_run _ _ _).mono (fun r h c => ?_) (Cert.ReferenceIdeal.Own.run_main m' g')
    have hX : Cert.ReferenceIdeal.Own.argX m' c = Cert.KernelIdeal.Own.argX m c := (hargs c).1
    have hC : Cert.ReferenceIdeal.Own.argC m' c = Cert.KernelIdeal.Own.argC m c := (hargs c).2
    have hr := h c
    rw [hX, hC] at hr
    exact hr

/-- The claims: the frame of each program, that the ideal program is the kernel read over the extended reals, and that it
    computes what the reference computes. -/
theorem claim : Cert.Claim :=
  ⟨Cert.Kernel.Gen.facts, Cert.KernelIdeal.Gen.facts, Cert.ReferenceIdeal.Gen.facts, Cert.Pre_no_tie.Gen.facts,
    fun m g _ => Cert.Kernel.Own.frame m g, fun m g _ => Cert.Kernel.Own.frame m g, fun m g _ => Cert.KernelIdeal.Own.frame m g,
    fun m g _ => Cert.ReferenceIdeal.Own.frame m g, fun m g _ => Cert.ReferenceIdeal.Own.frame m g, trivial, algebraic⟩

end Cert.Proof

end
